-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 32]⟩ ⟨2, ![1024, 1024]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1024 : Shape := ⟨2, ![32, 1024]⟩
abbrev S1024x1024 : Shape := ⟨2, ![1024, 1024]⟩
abbrev S1024x32 : Shape := ⟨2, ![1024, 32]⟩
abbrev S32x32x32 : Shape := ⟨3, ![32, 32, 32]⟩
abbrev S31 : Shape := ⟨1, ![31]⟩
abbrev S_ : Shape := ⟨0, ![]⟩
abbrev S32x32 : Shape := ⟨2, ![32, 32]⟩
abbrev S1x32x32 : Shape := ⟨3, ![1, 32, 32]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S32x1024, .bf16⟩
  | .hbm, ⟨1, _⟩ => ⟨S1024x1024, .bf16⟩
  | .hbm, ⟨2, _⟩ => ⟨S1024x32, .f32⟩
  | .local _ .vmem, ⟨0, _⟩ => ⟨S32x1024, .bf16⟩
  | .local _ .vmem, ⟨1, _⟩ => ⟨S1024x1024, .bf16⟩
  | .local _ .vmem, ⟨2, _⟩ => ⟨S1024x32, .f32⟩
  | .local _ .vmem, ⟨3, _⟩ => ⟨S32x32x32, .bf16⟩
  | .local _ .vmem, ⟨4, _⟩ => ⟨S32x32x32, .bf16⟩
  | _, _ => ⟨S32x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_110 : BitVec 32 := 0#32
  let c0_i32_111 : BitVec 32 := 0#32
  ![v2.toNat, 0, 0]
def k0_off2 (d0 : Dev nD) (c1_i32_106 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v247 : BitVec 32 := Scalar.addi v2 c1_i32_106
  let c32_i32_107 : BitVec 32 := 32#32
  let v248 : BitVec 32 := Scalar.remsi v247 c32_i32_107
  let c0_i32_112 : BitVec 32 := 0#32
  let c0_i32_113 : BitVec 32 := 0#32
  ![v248.toNat, 0, 0]
def k0_dev1 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_106 : BitVec 32 := 1#32
  let v247 : BitVec 32 := Scalar.addi v2 c1_i32_106
  let c32_i32_107 : BitVec 32 := 32#32
  let v248 : BitVec 32 := Scalar.remsi v247 c32_i32_107
  v248.toNat
def k0_dev2 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_114 : BitVec 32 := 2#32
  let v257 : BitVec 32 := Scalar.addi v2 c2_i32_114
  let c32_i32_115 : BitVec 32 := 32#32
  let v258 : BitVec 32 := Scalar.remsi v257 c32_i32_115
  v258.toNat
def k0_dev3 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_122 : BitVec 32 := 3#32
  let v267 : BitVec 32 := Scalar.addi v2 c3_i32_122
  let c32_i32_123 : BitVec 32 := 32#32
  let v268 : BitVec 32 := Scalar.remsi v267 c32_i32_123
  v268.toNat
def k0_dev4 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_130 : BitVec 32 := 4#32
  let v277 : BitVec 32 := Scalar.addi v2 c4_i32_130
  let c32_i32_131 : BitVec 32 := 32#32
  let v278 : BitVec 32 := Scalar.remsi v277 c32_i32_131
  v278.toNat
def k0_dev5 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_138 : BitVec 32 := 5#32
  let v287 : BitVec 32 := Scalar.addi v2 c5_i32_138
  let c32_i32_139 : BitVec 32 := 32#32
  let v288 : BitVec 32 := Scalar.remsi v287 c32_i32_139
  v288.toNat
def k0_dev6 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_146 : BitVec 32 := 6#32
  let v297 : BitVec 32 := Scalar.addi v2 c6_i32_146
  let c32_i32_147 : BitVec 32 := 32#32
  let v298 : BitVec 32 := Scalar.remsi v297 c32_i32_147
  v298.toNat
def k0_dev7 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_154 : BitVec 32 := 7#32
  let v307 : BitVec 32 := Scalar.addi v2 c7_i32_154
  let c32_i32_155 : BitVec 32 := 32#32
  let v308 : BitVec 32 := Scalar.remsi v307 c32_i32_155
  v308.toNat
def k0_dev8 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_162 : BitVec 32 := 8#32
  let v317 : BitVec 32 := Scalar.addi v2 c8_i32_162
  let c32_i32_163 : BitVec 32 := 32#32
  let v318 : BitVec 32 := Scalar.remsi v317 c32_i32_163
  v318.toNat
def k0_dev9 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_170 : BitVec 32 := 9#32
  let v327 : BitVec 32 := Scalar.addi v2 c9_i32_170
  let c32_i32_171 : BitVec 32 := 32#32
  let v328 : BitVec 32 := Scalar.remsi v327 c32_i32_171
  v328.toNat
def k0_dev10 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_178 : BitVec 32 := 10#32
  let v337 : BitVec 32 := Scalar.addi v2 c10_i32_178
  let c32_i32_179 : BitVec 32 := 32#32
  let v338 : BitVec 32 := Scalar.remsi v337 c32_i32_179
  v338.toNat
def k0_dev11 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_186 : BitVec 32 := 11#32
  let v347 : BitVec 32 := Scalar.addi v2 c11_i32_186
  let c32_i32_187 : BitVec 32 := 32#32
  let v348 : BitVec 32 := Scalar.remsi v347 c32_i32_187
  v348.toNat
def k0_dev12 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_194 : BitVec 32 := 12#32
  let v357 : BitVec 32 := Scalar.addi v2 c12_i32_194
  let c32_i32_195 : BitVec 32 := 32#32
  let v358 : BitVec 32 := Scalar.remsi v357 c32_i32_195
  v358.toNat
def k0_dev13 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_202 : BitVec 32 := 13#32
  let v367 : BitVec 32 := Scalar.addi v2 c13_i32_202
  let c32_i32_203 : BitVec 32 := 32#32
  let v368 : BitVec 32 := Scalar.remsi v367 c32_i32_203
  v368.toNat
def k0_dev14 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_210 : BitVec 32 := 14#32
  let v377 : BitVec 32 := Scalar.addi v2 c14_i32_210
  let c32_i32_211 : BitVec 32 := 32#32
  let v378 : BitVec 32 := Scalar.remsi v377 c32_i32_211
  v378.toNat
def k0_dev15 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_218 : BitVec 32 := 15#32
  let v387 : BitVec 32 := Scalar.addi v2 c15_i32_218
  let c32_i32_219 : BitVec 32 := 32#32
  let v388 : BitVec 32 := Scalar.remsi v387 c32_i32_219
  v388.toNat
def k0_dev16 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_226 : BitVec 32 := 16#32
  let v397 : BitVec 32 := Scalar.addi v2 c16_i32_226
  let c32_i32_227 : BitVec 32 := 32#32
  let v398 : BitVec 32 := Scalar.remsi v397 c32_i32_227
  v398.toNat
def k0_dev17 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_234 : BitVec 32 := 17#32
  let v407 : BitVec 32 := Scalar.addi v2 c17_i32_234
  let c32_i32_235 : BitVec 32 := 32#32
  let v408 : BitVec 32 := Scalar.remsi v407 c32_i32_235
  v408.toNat
def k0_dev18 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_242 : BitVec 32 := 18#32
  let v417 : BitVec 32 := Scalar.addi v2 c18_i32_242
  let c32_i32_243 : BitVec 32 := 32#32
  let v418 : BitVec 32 := Scalar.remsi v417 c32_i32_243
  v418.toNat
def k0_dev19 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_250 : BitVec 32 := 19#32
  let v427 : BitVec 32 := Scalar.addi v2 c19_i32_250
  let c32_i32_251 : BitVec 32 := 32#32
  let v428 : BitVec 32 := Scalar.remsi v427 c32_i32_251
  v428.toNat
def k0_dev20 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_258 : BitVec 32 := 20#32
  let v437 : BitVec 32 := Scalar.addi v2 c20_i32_258
  let c32_i32_259 : BitVec 32 := 32#32
  let v438 : BitVec 32 := Scalar.remsi v437 c32_i32_259
  v438.toNat
def k0_dev21 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_266 : BitVec 32 := 21#32
  let v447 : BitVec 32 := Scalar.addi v2 c21_i32_266
  let c32_i32_267 : BitVec 32 := 32#32
  let v448 : BitVec 32 := Scalar.remsi v447 c32_i32_267
  v448.toNat
def k0_dev22 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_274 : BitVec 32 := 22#32
  let v457 : BitVec 32 := Scalar.addi v2 c22_i32_274
  let c32_i32_275 : BitVec 32 := 32#32
  let v458 : BitVec 32 := Scalar.remsi v457 c32_i32_275
  v458.toNat
def k0_dev23 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_282 : BitVec 32 := 23#32
  let v467 : BitVec 32 := Scalar.addi v2 c23_i32_282
  let c32_i32_283 : BitVec 32 := 32#32
  let v468 : BitVec 32 := Scalar.remsi v467 c32_i32_283
  v468.toNat
def k0_dev24 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_290 : BitVec 32 := 24#32
  let v477 : BitVec 32 := Scalar.addi v2 c24_i32_290
  let c32_i32_291 : BitVec 32 := 32#32
  let v478 : BitVec 32 := Scalar.remsi v477 c32_i32_291
  v478.toNat
def k0_dev25 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_298 : BitVec 32 := 25#32
  let v487 : BitVec 32 := Scalar.addi v2 c25_i32_298
  let c32_i32_299 : BitVec 32 := 32#32
  let v488 : BitVec 32 := Scalar.remsi v487 c32_i32_299
  v488.toNat
def k0_dev26 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_306 : BitVec 32 := 26#32
  let v497 : BitVec 32 := Scalar.addi v2 c26_i32_306
  let c32_i32_307 : BitVec 32 := 32#32
  let v498 : BitVec 32 := Scalar.remsi v497 c32_i32_307
  v498.toNat
def k0_dev27 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_314 : BitVec 32 := 27#32
  let v507 : BitVec 32 := Scalar.addi v2 c27_i32_314
  let c32_i32_315 : BitVec 32 := 32#32
  let v508 : BitVec 32 := Scalar.remsi v507 c32_i32_315
  v508.toNat
def k0_dev28 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_322 : BitVec 32 := 28#32
  let v517 : BitVec 32 := Scalar.addi v2 c28_i32_322
  let c32_i32_323 : BitVec 32 := 32#32
  let v518 : BitVec 32 := Scalar.remsi v517 c32_i32_323
  v518.toNat
def k0_dev29 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_330 : BitVec 32 := 29#32
  let v527 : BitVec 32 := Scalar.addi v2 c29_i32_330
  let c32_i32_331 : BitVec 32 := 32#32
  let v528 : BitVec 32 := Scalar.remsi v527 c32_i32_331
  v528.toNat
def k0_dev30 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_338 : BitVec 32 := 30#32
  let v537 : BitVec 32 := Scalar.addi v2 c30_i32_338
  let c32_i32_339 : BitVec 32 := 32#32
  let v538 : BitVec 32 := Scalar.remsi v537 c32_i32_339
  v538.toNat
def k0_dev31 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_346 : BitVec 32 := 31#32
  let v547 : BitVec 32 := Scalar.addi v2 c31_i32_346
  let c32_i32_347 : BitVec 32 := 32#32
  let v548 : BitVec 32 := Scalar.remsi v547 c32_i32_347
  v548.toNat
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v557 : Index := Scalar.indexCast v2
  let c0_354 : Index := 0#32
  let c0_355 : Index := 0#32
  ![v557.toNat, 0, 0]
def k0_off4 (d0 : Dev nD) (c1_i32_358 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v564 : BitVec 32 := Scalar.subi v2 c1_i32_358
  let c32_i32_359 : BitVec 32 := 32#32
  let v565 : BitVec 32 := Scalar.addi v564 c32_i32_359
  let c32_i32_360 : BitVec 32 := 32#32
  let v566 : BitVec 32 := Scalar.remsi v565 c32_i32_360
  let c0_i32_363 : BitVec 32 := 0#32
  let c0_i32_364 : BitVec 32 := 0#32
  ![v566.toNat, 0, 0]
abbrev stage0_0 : Fin 1 → Memref sig .tc .vmem S32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdeal.Steps.lean ====
/- The kernel's body as five counted sequences of steps.

   The printed body is a straight line of some two thousand statements, cut by count into windows. Its steps come in five
   families — a signal to each device, a store of each column block, a send, a wait for a receipt, a wait for a send — and here
   each family is ONE function of its index, run in order by `inOrder`. `body_eq` says that the printed body is these sequences,
   so that every later proof treats a family by its general member. -/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.KernelIdeal.Exchange

open Idealize.ShloMosaic Idealize.ShloMosaic.TcCoe
open Idealize.SL.Sem
open Cert.KernelIdeal.Gen

variable {F : FTy → Type} [FloatOps F]

/-- The programs of this kernel's body that return nothing. -/
abbrev Act (F : FTy → Type) := Prog (TpuEff nD τ sig (Elt F) Λ₀ .tc) PUnit

/-- The members of a finite family of programs one after another, from index 0 upwards. -/
def inOrder : (n : ℕ) → (Fin n → Act F) → Act F
  | 0, _ => pure ⟨⟩
  | n + 1, f => do
    f 0
    inOrder n fun i => f i.succ

/-! ## The addresses -/

/-- A slot lies within the buffer. -/
theorem slot_inb (t : Fin 32) : ∀ a, (![t.val, 0, 0] : Fin 3 → Nat) a + S1x32x32.size a ≤ S32x32x32.size a := by
  revert t; decide +kernel

/-- A slot's rows are whole words. -/
theorem slot_packed (t : Fin 32) :
    (Rect.unit (s := S32x32x32) ![t.val, 0, 0] S1x32x32.size (slot_inb t)).PackedRows (EltTy.packing .bf16) := by
  revert t; decide +kernel

/-- A column block lies within the rows. -/
theorem cut_ok (t : Fin 32) : S32x1024.Slices ![0, 32 * t.val] S32x32 := by
  revert t; decide +kernel

/-- A step's counter lies within its array. -/
theorem sem_inb (r : Fin 31) : ∀ a, (![r.val] : Fin 1 → Nat) a + S1.size a ≤ S31.size a := by
  revert r; decide +kernel

/-- The word of step `r`: the distance `r + 1` round the ring of devices. -/
abbrev dist (r : Fin 31) : BitVec 32 := BitVec.ofNat 32 (1 + r.val)

/-- The number of the device sent to is a device's. -/
theorem peer_lt (d : Dev nD) (r : Fin 31) : k0_off2 d (dist r) 0 < nD := by
  rw [k0_off2_eq]; exact Nat.mod_lt _ (by decide)

/-- The device that device `d` sends to in step `r`. -/
abbrev peer (d : Dev nD) (r : Fin 31) : Dev nD := ⟨k0_off2 d (dist r) 0, peer_lt d r⟩

/-- The barrier semaphore that the kernel's devices meet on. -/
abbrev barS : Sem sig := (SemArray.scalar (sig.barrier 0 rfl) : Sems sig S_).sem

/-- Semaphore `r` of an array of 31. -/
abbrev semAt (a : DmaSems sig S31) (r : Fin 31) : DmaSem sig :=
  ((a.slice (Rect.unit (s := S31) ![r.val] S1.size (sem_inb r))).squeeze S_ squeezes_S1_S_).sem

section
variable (arg0 : Memref sig .tc .vmem S32x1024 .bf16) (arg1 : Memref sig .tc .vmem S1024x1024 .bf16)
  (arg2 : Memref sig .tc .vmem S1024x32 .f32) (arg3 : Memref sig .tc .vmem S32x32x32 .bf16) (harg3 : arg3.IsWhole)
  (arg4 : Memref sig .tc .vmem S32x32x32 .bf16) (harg4 : arg4.IsWhole) (arg5 arg6 : DmaSems sig S31) (d : Dev nD)

/-- The slot of a buffer of 32 slots at the printed offsets `o`, as a matrix. -/
abbrev slotAt (a : Memref sig .tc .vmem S32x32x32 .bf16) (o : Fin 3 → Nat) (h : ∀ x, o x + S1x32x32.size x ≤ S32x32x32.size x) :
    Memref sig .tc .vmem S32x32 .bf16 :=
  (a.slice (Rect.unit (s := S32x32x32) o S1x32x32.size h) (fun _ => rfl)).squeeze S32x32 squeezes_S1x32x32_S32x32

/-- One unit to the barrier semaphore of device `k`, unless that is the device itself. -/
def signal (k : Fin 32) : Act F :=
  if Scalar.cmpi .ne (Scalar.extui (Scalar.cmpi .ne (Scalar.remsi (Scalar.divsi (Dev.word d) 1#32) 32#32) (BitVec.ofNat 32 k.val)) : BitVec 32) 0#32 = 1#1 then do
    semSignalWord (⟨k.val, k.isLt⟩ : Dev nD) barS 1#32
    pure ⟨⟩
  else
    pure ⟨⟩

/-- Column block `t` of a device's rows, as a slot's contents. -/
def colBlock (y : FVec F S32x1024 .bf16) (t : Fin 32) : FVec F S1x32x32 .bf16 :=
  shapeCast S1x32x32 (extractStridedSlice S32x32 ![0, 32 * t.val] y (cut_ok t)) shapeCasts_S32x32_S1x32x32

/-- Slot `t` of the send buffer read (the value is not used) and then filled with column block `t`. -/
def fill (y : FVec F S32x1024 .bf16) (t : Fin 32) : Act F := do
  let _ : Vec F S1x32x32 .bf16 ← Prog.lift (.load arg3 (Rect.unit (s := S32x32x32) ![t.val, 0, 0] S1x32x32.size (slot_inb t)).toLoadRect (View.loadsAt_vmem h_S1x32x32))
  Prog.lift (.store arg3 (Rect.unit (s := S32x32x32) ![t.val, 0, 0] S1x32x32.size (slot_inb t)) (colBlock y t) Finset.univ (View.stores_vmem h_S1x32x32 (harg3.storeExact_slice rfl _ (slot_packed t)) (fun _ => rfl)) (.inl rfl))

/-- Step `r`'s send: the slot of the device `r + 1` further on, into that device's receive buffer. -/
def send (r : Fin 31) : Act F :=
  Prog.lift (.enqueueDma (slotAt arg3 (k0_off2 d (dist r)) (k0_off2_inb d r))
    (.remote (Dev.tc (peer d r)) (slotAt arg4 (k0_off1 d) (k0_off1_inb d)) (.dma (semAt arg5 r))) (.dma (semAt arg6 r))
    ((harg3.wordExact_slice rfl _ (k0_off2_wordsbf16 d r)).reshape _ _) ((harg4.wordExact_slice rfl _ (k0_off1_wordsbf16 d)).reshape _ _)
    ⟨⟨rfl, Or.inl rfl⟩, trivial⟩)

/-- Step `r`'s wait for the block that the device `r + 1` further back sends. -/
def awaitRecv (r : Fin 31) : Act F :=
  Prog.lift (.waitDma2 (semAt arg6 r) (slotAt arg3 (k0_off4 d (dist r)) (k0_off4_inb d r)) (slotAt arg4 (k0_off4 d (dist r)) (k0_off4_inb d r))
    ((harg3.wordExact_slice rfl _ (k0_off4_wordsbf16 d r)).reshape _ _) ((harg4.wordExact_slice rfl _ (k0_off4_wordsbf16 d r)).reshape _ _))

/-- Step `r`'s wait for its own send to have left. -/
def awaitSend (r : Fin 31) : Act F :=
  Prog.lift (.waitDma2 (semAt arg5 r) (slotAt arg4 (k0_off1 d) (k0_off1_inb d)) (slotAt arg3 (k0_off2 d (dist r)) (k0_off2_inb d r))
    ((harg4.wordExact_slice rfl _ (k0_off1_wordsbf16 d)).reshape _ _) ((harg3.wordExact_slice rfl _ (k0_off2_wordsbf16 d r)).reshape _ _))

/-- The body after the products are formed and stored: the barrier, the exchange, the result. -/
def exchange : Act F := do
  semWaitWord barS 31#32
  inOrder 31 (send arg3 harg3 arg4 harg4 arg5 arg6 d)
  let own : Vec F S1x32x32 .bf16 ← Prog.lift (.load arg3 (Rect.unit (s := S32x32x32) (k0_off3 d) S1x32x32.size (k0_off3_inb d)).toLoadRect (View.loadsAt_vmem h_S1x32x32))
  let _ : Vec F S1x32x32 .bf16 ← Prog.lift (.load arg4 (Rect.unit (s := S32x32x32) (k0_off3 d) S1x32x32.size (k0_off3_inb d)).toLoadRect (View.loadsAt_vmem h_S1x32x32))
  Prog.lift (.store arg4 (Rect.unit (s := S32x32x32) (k0_off3 d) S1x32x32.size (k0_off3_inb d)) (k0_pay40 (k0_pay39 own)) Finset.univ (View.stores_vmem h_S1x32x32 (harg4.storeExact_slice rfl _ (k0_off3_packedbf16 d)) (fun _ => rfl)) (.inl rfl))
  inOrder 31 (awaitRecv arg3 harg3 arg4 harg4 arg6 d)
  let got : Vec F S32x32x32 .bf16 ← Prog.lift (.load arg4 (Rect.unit (s := S32x32x32) ![0, 0, 0] S32x32x32.size inb_S32x32x32_S32x32x32_0_0_0).toLoadRect (View.loadsAt_vmem h_S32x32x32))
  let _ : Vec F S1024x32 .f32 ← Prog.lift (.load arg2 (Rect.unit (s := S1024x32) ![0, 0] S1024x32.size inb_S1024x32_S1024x32_0_0).toLoadRect (View.loadsAt_vmem h_S1024x32))
  Prog.lift (.store arg2 (Rect.unit (s := S1024x32) ![0, 0] S1024x32.size inb_S1024x32_S1024x32_0_0) (k0_pay41 got) Finset.univ (View.stores_vmem_bits_univ h_S1024x32 rfl) (.inl rfl))
  inOrder 31 (awaitSend arg3 harg3 arg4 harg4 arg5 d)

/-- The body after the signals: both operands read, the block of products formed, its column blocks stored, then the exchange. -/
def produce : Act F := do
  let x : Vec F S32x1024 .bf16 ← Prog.lift (.load arg0 (Rect.unit (s := S32x1024) ![0, 0] S32x1024.size inb_S32x1024_S32x1024_0_0).toLoadRect (View.loadsAt_vmem h_S32x1024))
  let w : Vec F S1024x1024 .bf16 ← Prog.lift (.load arg1 (Rect.unit (s := S1024x1024) ![0, 0] S1024x1024.size inb_S1024x1024_S1024x1024_0_0).toLoadRect (View.loadsAt_vmem h_S1024x1024))
  inOrder 32 (fill arg3 harg3 (k0_pay1 x w))
  exchange arg2 arg3 harg3 arg4 harg4 arg5 arg6 d

/-- The whole body. -/
def steps : Act F := do
  let d : Dev nD ← Prog.lift .deviceId
  inOrder 32 (signal (F := F) d)
  produce arg0 arg1 arg2 arg3 harg3 arg4 harg4 arg5 arg6 d

end

/-! ## The printed windows

   Only the first four windows hold conditionals; each is the signals of its indices, then what it returns. -/

/-- A list of steps, then a program. -/
def before {α : Type} (l : List (Act F)) (rest : Prog (TpuEff nD τ sig (Elt F) Λ₀ .tc) α) : Prog (TpuEff nD τ sig (Elt F) Λ₀ .tc) α :=
  l.foldr (fun p q => p >>= fun _ => q) rest

/-- A list of steps, a program, and what follows it: the steps come first. -/
theorem before_bind {α β : Type} (l : List (Act F)) (rest : Prog (TpuEff nD τ sig (Elt F) Λ₀ .tc) α)
    (k : α → Prog (TpuEff nD τ sig (Elt F) Λ₀ .tc) β) : (before l rest >>= k) = before l (rest >>= k) := by
  induction l with
  | nil => rfl
  | cons p l ih => exact (bind_assoc _ _ _).trans (congrArg _ (funext fun _ => ih))

/-- Two lists of steps in turn are their concatenation. -/
theorem before_append {α : Type} (l l' : List (Act F)) (rest : Prog (TpuEff nD τ sig (Elt F) Λ₀ .tc) α) :
    before l (before l' rest) = before (l ++ l') rest := (List.foldr_append ..).symm

/-- A family of steps and then a program is the list of the steps before the program. -/
theorem inOrder_bind {α : Type} (n : ℕ) (f : Fin n → Act F) (rest : Prog (TpuEff nD τ sig (Elt F) Λ₀ .tc) α) :
    (inOrder n f >>= fun _ => rest) = before ((List.finRange n).map f) rest := by
  induction n with
  | zero => rfl
  | succ n ih =>
    rw [List.finRange_succ, List.map_cons, List.map_map]
    exact (bind_assoc _ _ _).trans (congrArg _ (funext fun _ => ih _))

/-- The device's own id, as the body computes it. -/
abbrev me (d : Dev nD) : BitVec 32 := Scalar.remsi (Scalar.divsi (Dev.word d) 1#32) 32#32

/-- Whether a device's own id is not `k`, as the body computes it. -/
abbrev isnt (d : Dev nD) (k : BitVec 32) : BitVec 1 :=
  Scalar.cmpi .ne (Scalar.extui (Scalar.cmpi .ne (me d) k) : BitVec 32) 0#32

/-- A guarded signal and then the rest, with the rest printed in both branches, is the signal's step and then the rest. -/
theorem signal_then {α : Type} (d : Dev nD) (k : Fin 32) (rest goal : Prog (TpuEff nD τ sig (Elt F) Λ₀ .tc) α) (l : List (Act F))
    (h : rest = before l goal) :
    (if h : isnt d (BitVec.ofNat 32 k.val) = 1#1 then
        (semSignalWord (⟨k.val, k.isLt⟩ : Dev nD) barS 1#32 >>= fun _ => rest)
      else rest) = before (signal d k :: l) goal := by
  show _ = signal d k >>= fun _ => before l goal
  subst h
  unfold signal
  split
  · rw [bind_assoc]; rfl
  · rfl

section
variable (arg0 : Memref sig .tc .vmem S32x1024 .bf16) (harg0 : arg0.IsWhole) (arg1 : Memref sig .tc .vmem S1024x1024 .bf16) (harg1 : arg1.IsWhole)
    (arg2 : Memref sig .tc .vmem S1024x32 .f32) (harg2 : arg2.IsWhole) (arg3 : Memref sig .tc .vmem S32x32x32 .bf16) (harg3 : arg3.IsWhole)
    (arg4 : Memref sig .tc .vmem S32x32x32 .bf16) (harg4 : arg4.IsWhole) (arg5 arg6 : DmaSems sig S31) (d : Dev nD)

/-- The first window: the device's number, then the signals to devices 0 to 7. -/
theorem part1_eq : k0_part1 (F := F) arg0 harg0 arg1 harg1 arg2 harg2 arg3 harg3 arg4 harg4 arg5 arg6
    = Prog.op .deviceId fun d => before [signal d 0, signal d 1, signal d 2, signal d 3, signal d 4, signal d 5, signal d 6, signal d 7] (pure ⟨d, me d, SemArray.scalar (sig.barrier 0 rfl), isnt d 8#32⟩) := by
  rw [k0_part1_eq_skeleton]
  unfold k0_part1_skel
  refine congrArg (Prog.op _) (funext fun d => ?_)
  exact signal_then d 0 _ _ _ <|
    signal_then d 1 _ _ _ <|
    signal_then d 2 _ _ _ <|
    signal_then d 3 _ _ _ <|
    signal_then d 4 _ _ _ <|
    signal_then d 5 _ _ _ <|
    signal_then d 6 _ _ _ <|
    signal_then d 7 _ _ _ <| rfl

/-- The second window: the signals to devices 8 to 17. -/
theorem part2_eq : k0_part2 (F := F) arg0 harg0 arg1 harg1 arg2 harg2 arg3 harg3 arg4 harg4 arg5 arg6 (me d) (SemArray.scalar (sig.barrier 0 rfl)) (isnt d 8#32)
    = before [signal d 8, signal d 9, signal d 10, signal d 11, signal d 12, signal d 13, signal d 14, signal d 15, signal d 16, signal d 17] (pure (isnt d 18#32)) := by
  rw [k0_part2_eq_skeleton]
  unfold k0_part2_skel
  exact signal_then d 8 _ _ _ <|
    signal_then d 9 _ _ _ <|
    signal_then d 10 _ _ _ <|
    signal_then d 11 _ _ _ <|
    signal_then d 12 _ _ _ <|
    signal_then d 13 _ _ _ <|
    signal_then d 14 _ _ _ <|
    signal_then d 15 _ _ _ <|
    signal_then d 16 _ _ _ <|
    signal_then d 17 _ _ _ <| rfl

/-- The third window: the signals to devices 18 to 27. -/
theorem part3_eq : k0_part3 (F := F) arg0 harg0 arg1 harg1 arg2 harg2 arg3 harg3 arg4 harg4 arg5 arg6 (me d) (SemArray.scalar (sig.barrier 0 rfl)) (isnt d 18#32)
    = before [signal d 18, signal d 19, signal d 20, signal d 21, signal d 22, signal d 23, signal d 24, signal d 25, signal d 26, signal d 27] (pure (isnt d 28#32)) := by
  rw [k0_part3_eq_skeleton]
  unfold k0_part3_skel
  exact signal_then d 18 _ _ _ <|
    signal_then d 19 _ _ _ <|
    signal_then d 20 _ _ _ <|
    signal_then d 21 _ _ _ <|
    signal_then d 22 _ _ _ <|
    signal_then d 23 _ _ _ <|
    signal_then d 24 _ _ _ <|
    signal_then d 25 _ _ _ <|
    signal_then d 26 _ _ _ <|
    signal_then d 27 _ _ _ <| rfl

/-- What the fourth window does after its signals: the operands, the first column block, the second's slot read. -/
def part4rest : Prog (TpuEff nD τ sig (Elt F) Λ₀ .tc) (Σ' (v118 : FVec F S32x1024 .bf16) (v123 : FVec F S32x32 .bf16), Vec F S1x32x32 .bf16) := do
  let x : Vec F S32x1024 .bf16 ← Prog.lift (.load arg0 (Rect.unit (s := S32x1024) ![0, 0] S32x1024.size inb_S32x1024_S32x1024_0_0).toLoadRect (View.loadsAt_vmem h_S32x1024))
  let w : Vec F S1024x1024 .bf16 ← Prog.lift (.load arg1 (Rect.unit (s := S1024x1024) ![0, 0] S1024x1024.size inb_S1024x1024_S1024x1024_0_0).toLoadRect (View.loadsAt_vmem h_S1024x1024))
  fill arg3 harg3 (k0_pay1 x w) 0
  let old : Vec F S1x32x32 .bf16 ← Prog.lift (.load arg3 (Rect.unit (s := S32x32x32) ![1, 0, 0] S1x32x32.size inb_S32x32x32_S1x32x32_1_0_0).toLoadRect (View.loadsAt_vmem h_S1x32x32))
  pure ⟨k0_pay1 x w, k0_pay3 x w, old⟩

/-- The fourth window: the last four signals, then the operands and the first column block. -/
theorem part4_eq : k0_part4 (F := F) arg0 harg0 arg1 harg1 arg2 harg2 arg3 harg3 arg4 harg4 arg5 arg6 (me d) (SemArray.scalar (sig.barrier 0 rfl)) (isnt d 28#32)
    = before [signal d 28, signal d 29, signal d 30, signal d 31] (part4rest arg0 arg1 arg3 harg3) := by
  rw [k0_part4_eq_skeleton]
  unfold k0_part4_skel
  exact signal_then d 28 _ _ _ <|
    signal_then d 29 _ _ _ <|
    signal_then d 30 _ _ _ <|
    signal_then d 31 _ _ _ <| rfl

set_option maxRecDepth 100000 in
set_option maxHeartbeats 1000000 in
/-- The printed body is the five sequences of steps. -/
theorem body_eq : (cc0_body arg0 harg0 arg1 harg1 arg2 harg2 arg3 harg3 arg4 harg4 arg5 arg6 : Act F) = steps arg0 arg1 arg2 arg3 harg3 arg4 harg4 arg5 arg6 := by
  rw [cc0_body_eq_skeleton]
  unfold cc0_body_skel steps
  rw [part1_eq]
  refine congrArg (Prog.op _) (funext fun d => ?_)
  refine (before_bind _ _ _).trans ?_
  refine Eq.trans ?_ (inOrder_bind _ _ _).symm
  refine Eq.trans (congrArg _ (?_ : _ = before [signal d 8, signal d 9, signal d 10, signal d 11, signal d 12, signal d 13, signal d 14, signal d 15, signal d 16, signal d 17] (before [signal d 18, signal d 19, signal d 20, signal d 21, signal d 22, signal d 23, signal d 24, signal d 25, signal d 26, signal d 27] (before [signal d 28, signal d 29, signal d 30, signal d 31] (produce arg0 arg1 arg2 arg3 harg3 arg4 harg4 arg5 arg6 d))))) ?_
  · refine (pure_bind _ _).trans ?_
    dsimp only
    rw [part2_eq]
    refine (before_bind _ _ _).trans (congrArg _ ((pure_bind _ _).trans ?_))
    rw [part3_eq]
    refine (before_bind _ _ _).trans (congrArg _ ((pure_bind _ _).trans ?_))
    rw [part4_eq]
    refine (before_bind _ _ _).trans (congrArg _ ?_)
    rfl
  · rw [before_append, before_append, before_append]
    rfl

end

end Cert.KernelIdeal.Exchange

end
-- ==== Proof.KernelIdeal.Slots.lean ====
/- The two exchange buffers as 32 slots each.

   Slot `t` of either buffer is the 32×32 block at leading index `t`. The send buffer of a device holds the column blocks of its
   rows, slot `t` the block for device `t`; the receive buffer of device `c` ends with slot `s` holding the block that device `s`
   sent it. Both are written here as closed contents, with the facts that a stored block, and a landed one, are what they say. -/
module

public import proofs.«01_k».proof.Proof.KernelIdeal.Steps
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.KernelIdeal.Exchange

open Idealize.ShloMosaic Idealize.ShloMosaic.TcCoe
open Cert.KernelIdeal.Gen

variable {F : FTy → Type} [FloatOps F]

/-! ## The buffers and their slots -/

/-- The staged rows of `x`. -/
abbrev xM : Memref sig .tc .vmem S32x1024 .bf16 := Memref.whole cc0_stg0_0
/-- The staged weights. -/
abbrev wM : Memref sig .tc .vmem S1024x1024 .bf16 := Memref.whole cc0_stg1_0
/-- The result's staging buffer. -/
abbrev oM : Memref sig .tc .vmem S1024x32 .f32 := Memref.whole cc0_stg2_0
/-- The send buffer. -/
abbrev yM : Memref sig .tc .vmem S32x32x32 .bf16 := Memref.whole cc0_scratch0
/-- The receive buffer. -/
abbrev rM : Memref sig .tc .vmem S32x32x32 .bf16 := Memref.whole cc0_scratch1

/-- The rectangle of slot `t`. -/
abbrev slotRect (t : Fin 32) : Rect S32x32x32 := Rect.unit (s := S32x32x32) ![t.val, 0, 0] S1x32x32.size (slot_inb t)

/-- The elements of slot `t`. -/
abbrev slot (t : Fin 32) : Finset S32x32x32.Idx := (slotRect t).set

/-- Different slots share no element. -/
theorem slot_disjoint (t t' : Fin 32) (h : t ≠ t') : Disjoint (slot t) (slot t') :=
  Ring.lead_disjoint (s := S32x32x32) (NB := 32) (0 : Fin 3) 1 (fun t => ![t.val, 0, 0]) S1x32x32.size slot_inb
    (fun b => (Nat.one_mul b.val).symm) rfl t t' h

/-- The slots make up the buffer. -/
theorem slot_cover : Finset.univ.biUnion slot = Finset.univ :=
  Ring.lead_cover (s := S32x32x32) (NB := 32) (0 : Fin 3) 1 (fun t => ![t.val, 0, 0]) S1x32x32.size slot_inb
    (fun b => (Nat.one_mul b.val).symm)
    (fun b a ha => by match a, ha with | ⟨1, _⟩, _ => rfl | ⟨2, _⟩, _ => rfl | ⟨0, _⟩, ha => exact absurd rfl ha) rfl
    (fun a ha => by match a, ha with | ⟨1, _⟩, _ => rfl | ⟨2, _⟩, _ => rfl | ⟨0, _⟩, ha => exact absurd rfl ha) rfl

/-- The same place in slot `t`. -/
def withSlot (t : Fin 32) (i : S32x32x32.Idx) : S32x32x32.Idx
  | ⟨0, _⟩ => t
  | ⟨1, h⟩ => i ⟨1, h⟩
  | ⟨2, h⟩ => i ⟨2, h⟩

/-- The place within its slot. -/
def inner (i : S32x32x32.Idx) : S1x32x32.Idx
  | ⟨0, _⟩ => (0 : Fin 1)
  | ⟨1, h⟩ => i ⟨1, h⟩
  | ⟨2, h⟩ => i ⟨2, h⟩

/-- An element of slot `t` has first coordinate `t`. -/
theorem slot_emb_zero (t : Fin 32) (k : S1x32x32.Idx) : ((slotRect t).emb k) (0 : Fin 3) = t := by
  have hk : (k (0 : Fin 3)).val = 0 := Nat.lt_one_iff.mp (k (0 : Fin 3)).isLt
  exact Fin.ext (by show t.val + 1 * (k (0 : Fin 3)).val = t.val; omega)

/-- The place within its slot of the slot's element at `k` is `k`. -/
theorem inner_emb (t : Fin 32) (k : S1x32x32.Idx) : inner ((slotRect t).emb k) = k := by
  have hk : (k (0 : Fin 3)).val = 0 := Nat.lt_one_iff.mp (k (0 : Fin 3)).isLt
  funext a
  match a with
  | ⟨0, _⟩ => exact Fin.ext hk.symm
  | ⟨1, _⟩ => exact Fin.ext (by show 0 + 1 * (k (1 : Fin 3)).val = (k (1 : Fin 3)).val; omega)
  | ⟨2, _⟩ => exact Fin.ext (by show 0 + 1 * (k (2 : Fin 3)).val = (k (2 : Fin 3)).val; omega)

/-- Moved to slot `t'`, the element at `k` of slot `t` is the element at `k` of slot `t'`. -/
theorem withSlot_emb (t t' : Fin 32) (k : S1x32x32.Idx) : withSlot t' ((slotRect t).emb k) = (slotRect t').emb k := by
  funext a
  match a with
  | ⟨0, _⟩ => exact (slot_emb_zero t' k).symm
  | ⟨1, _⟩ => rfl
  | ⟨2, _⟩ => rfl

/-- An element of slot `t` is a place of the slot's block. -/
theorem slot_mem {t : Fin 32} {i : S32x32x32.Idx} (hi : i ∈ slot t) : ∃ k : S1x32x32.Idx, (slotRect t).emb k = i := by
  have hi' : i ∈ ((View.whole cc0_scratch0).slice (slotRect t)).set := by rw [View.set_slice_whole]; exact hi
  obtain ⟨k, -, hk⟩ := Finset.mem_map.mp hi'
  exact ⟨k, hk⟩

/-! ## Contents -/

/-- A device's send buffer when its rows are `v`: slot `t` is column block `t`. -/
def sendBuf (v : FVec F S32x1024 .bf16) : (cc0_scratch0 : Ref sig .tc).ty.Contents (Elt F) :=
  fun (i : S32x32x32.Idx) => colBlock v (i (0 : Fin 3)) (inner i)

/-- Device `c`'s receive buffer at the end, when the devices' rows are `y`: slot `s` is column block `c` of device `s`'s rows. -/
def recvBuf (y : Dev nD → FVec F S32x1024 .bf16) (c : Dev nD) : (cc0_scratch1 : Ref sig .tc).ty.Contents (Elt F) :=
  fun (i : S32x32x32.Idx) => sendBuf (y (i (0 : Fin 3))) (withSlot c i)

/-- Slot `t` of the send buffer holds column block `t`. -/
theorem sendBuf_emb (v : FVec F S32x1024 .bf16) (t : Fin 32) (k : S1x32x32.Idx) : sendBuf v ((slotRect t).emb k) = colBlock v t k := by
  show colBlock v (((slotRect t).emb k) (0 : Fin 3)) (inner ((slotRect t).emb k)) = _
  rw [slot_emb_zero, inner_emb]

/-- Slot `s` of device `c`'s receive buffer holds what slot `c` of device `s`'s send buffer holds. -/
theorem recvBuf_emb (y : Dev nD → FVec F S32x1024 .bf16) (c s : Dev nD) (k : S1x32x32.Idx) :
    recvBuf y c ((slotRect s).emb k) = sendBuf (y s) ((slotRect c).emb k) := by
  show sendBuf (y (((slotRect s).emb k) (0 : Fin 3))) (withSlot c ((slotRect s).emb k)) = _
  rw [slot_emb_zero, withSlot_emb]

/-- Slot `t` filled with column block `t`, at the elements of the slot. -/
theorem fill_eq (v : FVec F S32x1024 .bf16) (t : Fin 32) (f : (cc0_scratch0 : Ref sig .tc).ty.Contents (Elt F)) (i) (hi : i ∈ slot t) :
    ((yM.access (slotRect t)) : View sig .tc _ _ _).write (Elt F) f (colBlock v t) Finset.univ i = sendBuf v i := by
  obtain ⟨k, rfl⟩ := slot_mem hi
  exact (View.write_emb_of_mem (Val := Elt F) _ _ (Finset.mem_univ k)).trans (sendBuf_emb v t k).symm

/-- Column block `t` landed from device `s`'s send buffer in slot `s` of device `t`'s receive buffer, at the elements of that slot. -/
theorem landed_eq (y : Dev nD → FVec F S32x1024 .bf16) (s t : Dev nD) (f : (cc0_scratch1 : Ref sig .tc).ty.Contents (Elt F)) (i) (hi : i ∈ slot s) :
    (slotAt rM ![s.val, 0, 0] (slot_inb s)).view.write (Elt F) f
      ((slotAt yM ![t.val, 0, 0] (slot_inb t)).view.read (Elt F) (sendBuf (y s))) Finset.univ i = recvBuf y t i := by
  have hi' : i ∈ (slotAt rM ![s.val, 0, 0] (slot_inb s)).view.set := by
    rw [Memref.set_view_squeeze]; exact (View.set_slice_whole cc0_scratch1 (slotRect s)).symm ▸ hi
  obtain ⟨j, -, rfl⟩ := Finset.mem_map.mp hi'
  exact (View.write_emb_of_mem (Val := Elt F) _ _ (Finset.mem_univ j)).trans (recvBuf_emb y t s _).symm

/-- The elements of a slot's memref are the slot's. -/
theorem slotAt_set_y (t : Fin 32) : (slotAt yM ![t.val, 0, 0] (slot_inb t)).view.set = slot t := by
  rw [Memref.set_view_squeeze]; exact View.set_slice_whole cc0_scratch0 (slotRect t)
/-- The same of the receive buffer. -/
theorem slotAt_set_r (t : Fin 32) : (slotAt rM ![t.val, 0, 0] (slot_inb t)).view.set = slot t := by
  rw [Memref.set_view_squeeze]; exact View.set_slice_whole cc0_scratch1 (slotRect t)

/-- The casts between a slot and its block undo each other. -/
theorem own_cast (v : FVec F S1x32x32 .bf16) : k0_pay40 (k0_pay39 v) = v := by
  unfold k0_pay40 k0_pay39
  exact shapeCast_shapeCast v _ _

/-- A device's own block, read from its send buffer and stored in its receive buffer. -/
theorem own_eq (y : Dev nD → FVec F S32x1024 .bf16) (c : Dev nD) (f : (cc0_scratch1 : Ref sig .tc).ty.Contents (Elt F)) (i) (hi : i ∈ slot c) :
    ((rM.access (slotRect c)) : View sig .tc _ _ _).write (Elt F) f
      (k0_pay40 (k0_pay39 ((yM : Memref sig .tc .vmem S32x32x32 .bf16).view.readAt (Elt F) (slotRect c).toLoadRect (sendBuf (y c))))) Finset.univ i = recvBuf y c i := by
  obtain ⟨k, rfl⟩ := slot_mem hi
  refine (View.write_emb_of_mem (Val := Elt F) _ _ (Finset.mem_univ k)).trans ?_
  rw [recvBuf_emb, own_cast]
  rfl

/-- The credit of one block's transfer. -/
abbrev N : ℕ := (slotAt rM ![0, 0, 0] (slot_inb 0)).view.dmaCredit
/-- A block's credit is not zero. -/
theorem N_pos : 0 < N := View.dmaCredit_pos _ (by decide)

end Cert.KernelIdeal.Exchange

end
-- ==== Proof.KernelIdeal.Protocol.lean ====
/- The exchange's protocol, as a schedule of one round per semaphore cell.

   Every device has 63 cells: the barrier, and for each step `r` of 31 a send cell and a receive cell. The barrier cell of device
   `d` has one duty for each other device `c`, paid by `c`'s signal: it hands `d` the slot of `c`'s receive buffer that `d` sends
   into. The receive cell of step `r` has one duty, paid by the transfer of the device `r + 1` further back: the slot of that
   device, holding the block it sent. The send cell of step `r` has one duty, paid by the device's own transfer: the slot of the
   send buffer it read, back unchanged. -/
module

public import proofs.«01_k».proof.Proof.KernelIdeal.Slots
public import proofs.«01_k».proof.Proof.Gen.KernelIdeal.Launch

@[expose] public section

noncomputable section

namespace Cert.KernelIdeal.Exchange

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds and the exchange's, whose duties are named by devices -/

/-- The exchange's ghost state. -/
abbrev UB : Type := URounds (GSem nD τ sig) (Dev nD)
/-- All ghost state: the pipeline's and the exchange's. -/
abbrev UU : Type := UR sig nD τ × UB

local notation "𝕄" => MT nD τ sig Unit (Elt F) ℕ UU ℕ

/-- Where the pipeline's ghost state is in it. -/
abbrev EP : Emb (UR sig nD τ) (MT nD τ sig Unit (Elt F) ℕ UU ℕ) := embL
/-- Where the exchange's ghost state is in it. -/
abbrev ER : Emb UB (MT nD τ sig Unit (Elt F) ℕ UU ℕ) := embR

/-! ## Who sends to whom -/

/-- The device that device `c` receives from in step `r`. -/
abbrev source (c : Dev nD) (r : Fin 31) : Dev nD := ⟨(c.val + (32 - (r.val + 1))) % 32, Nat.mod_lt _ (by decide)⟩

/-- The peer of step `r` is `r + 1` devices further round. -/
theorem peer_val (c : Dev nD) (r : Fin 31) : (peer c r).val = (c.val + r.val + 1) % 32 := by
  show k0_off2 c (dist r) 0 = _
  rw [k0_off2_eq]; rfl

/-- The body's offset of the slot it sends in step `r` is the peer's number. -/
theorem off2_peer (c : Dev nD) (r : Fin 31) : k0_off2 c (dist r) = ![(peer c r).val, 0, 0] := by
  rw [peer_val, k0_off2_eq]

/-- A device is the source of its peer. -/
theorem source_peer (c : Dev nD) (r : Fin 31) : source (peer c r) r = c :=
  Fin.ext (by show ((peer c r).val + _) % 32 = _; have := c.isLt; have := r.isLt; rw [peer_val]; simp only [nD] at *; omega)

/-- A device is the peer of its source. -/
theorem peer_source (c : Dev nD) (r : Fin 31) : peer (source c r) r = c :=
  Fin.ext (by rw [peer_val]; show ((c.val + (32 - (r.val + 1))) % 32 + r.val + 1) % 32 = c.val; have := c.isLt; have := r.isLt; simp only [nD] at *; omega)

/-- The body's offset of the slot it receives in step `r` is the source's number. -/
theorem off4_source (c : Dev nD) (r : Fin 31) : k0_off4 c (dist r) = ![(source c r).val, 0, 0] := by
  have e : ((c.val + 31) - r.val) % 32 = (source c r).val := by
    show _ = (c.val + (32 - (r.val + 1))) % 32
    have := c.isLt; have := r.isLt; simp only [nD] at *; omega
  rw [k0_off4_eq, e]

/-- Step `r` as a permutation of the devices. -/
def shift (r : Fin 31) : Dev nD ≃ Dev nD := ⟨fun c => peer c r, fun c => source c r, fun c => source_peer c r, fun c => peer_source c r⟩

/-- No device is its own peer. -/
theorem peer_ne (c : Dev nD) (r : Fin 31) : peer c r ≠ c := fun h => by
  have := congrArg Fin.val h; rw [peer_val] at this
  have := c.isLt; have := r.isLt; simp only [nD] at *; omega

/-- A device has a different peer in every step. -/
theorem peer_injective (c : Dev nD) : Function.Injective (peer c) := fun r r' h => by
  have := congrArg Fin.val h; rw [peer_val, peer_val] at this
  have := c.isLt; have := r.isLt; have := r'.isLt; simp only [nD] at *; exact Fin.ext (by omega)

/-- A device has a different source in every step. -/
theorem source_injective (c : Dev nD) : Function.Injective (source c) := fun r r' h => by
  have := congrArg Fin.val h
  have := c.isLt; have := r.isLt; have := r'.isLt; simp only [nD] at *; exact Fin.ext (by omega)

/-- Every other device is the peer of exactly one step. -/
theorem peers_eq (c : Dev nD) : Finset.univ.map ⟨peer c, peer_injective c⟩ = Finset.univ.erase c := by
  refine Finset.eq_of_subset_of_card_le (fun d hd => ?_) ?_
  · obtain ⟨r, -, rfl⟩ := Finset.mem_map.mp hd
    exact Finset.mem_erase.mpr ⟨peer_ne c r, Finset.mem_univ _⟩
  · rw [Finset.card_map, Finset.card_erase_of_mem (Finset.mem_univ c), Finset.card_univ, Finset.card_univ, Fintype.card_fin, Fintype.card_fin]
    decide

/-- No device is its own source. -/
theorem source_ne (c : Dev nD) (r : Fin 31) : source c r ≠ c := fun h => by
  have := congrArg Fin.val h
  have := c.isLt; have := r.isLt; simp only [nD] at *; omega

/-- Every other device is the source of exactly one step. -/
theorem sources_eq (c : Dev nD) : Finset.univ.map ⟨source c, source_injective c⟩ = Finset.univ.erase c := by
  refine Finset.eq_of_subset_of_card_le (fun d hd => ?_) ?_
  · obtain ⟨r, -, rfl⟩ := Finset.mem_map.mp hd
    exact Finset.mem_erase.mpr ⟨source_ne c r, Finset.mem_univ _⟩
  · rw [Finset.card_map, Finset.card_erase_of_mem (Finset.mem_univ c), Finset.card_univ, Finset.card_univ, Fintype.card_fin, Fintype.card_fin]
    decide

/-! ## The cells -/

/-- A device's cells: the barrier, or a send (`false`) or receive (`true`) cell of a step. -/
abbrev Cell : Type := Option (Bool × Fin 31)

/-- The counter of a send or receive cell. -/
abbrev ownSem : Bool × Fin 31 → SemLoc sig
  | (false, r) => .dma (semAt cc0_scratch2 r)
  | (true, r) => .dma (semAt cc0_scratch3 r)

/-- The counter of a cell. -/
abbrev cellSem : Cell → SemLoc sig
  | none => .reg barS
  | some k => ownSem k

/-- The counter of a device's cell. -/
abbrev cellAt (ck : Dev nD × Cell) : GSem nD τ sig := ((ck.1 : Thread nD τ), cellSem ck.2)

/-- Device `c`'s barrier cell. -/
abbrev barCell (c : Dev nD) : GSem nD τ sig := cellAt (c, none)
/-- Device `c`'s send cell of step `r`. -/
abbrev sendCell (c : Dev nD) (r : Fin 31) : GSem nD τ sig := cellAt (c, some (false, r))
/-- Device `c`'s receive cell of step `r`. -/
abbrev recvCell (c : Dev nD) (r : Fin 31) : GSem nD τ sig := cellAt (c, some (true, r))

/-- Where the send counters lie among the copies' counters. -/
theorem semAt_send_val (r : Fin 31) : (semAt cc0_scratch2 r).val = 3 + r.val := by revert r; decide +kernel
/-- Where the receive counters lie among the copies' counters. -/
theorem semAt_recv_val (r : Fin 31) : (semAt cc0_scratch3 r).val = 34 + r.val := by revert r; decide +kernel

/-- The send and receive counters of a device are all different. -/
theorem ownSem_injective : Function.Injective ownSem := by
  rintro ⟨b, r⟩ ⟨b', r'⟩ h
  have hr := r.isLt; have hr' := r'.isLt
  cases b <;> cases b' <;> have h := congrArg Fin.val (SemLoc.dma.inj h) <;>
    simp only [semAt_send_val, semAt_recv_val] at h
  · exact congrArg _ (Fin.ext (by omega))
  · omega
  · omega
  · exact congrArg _ (Fin.ext (by omega))

/-- None of them is the barrier's. -/
theorem ownSem_ne_bar (k : Bool × Fin 31) : ownSem k ≠ .reg barS := by
  obtain ⟨b, r⟩ := k; cases b <;> exact fun h => by cases h

/-- A device's cells have different counters. -/
theorem cellSem_injective : Function.Injective cellSem := by
  rintro (_ | k) (_ | k') h
  · rfl
  · exact absurd h.symm (ownSem_ne_bar k')
  · exact absurd h (ownSem_ne_bar k)
  · exact congrArg _ (ownSem_injective h)

/-- All cells have different counters. -/
theorem cellAt_injective : Function.Injective cellAt := by
  rintro ⟨c, k⟩ ⟨c', k'⟩ h
  have h1 : c = c' := by have := congrArg (fun g : GSem nD τ sig => g.1.1) h; exact this
  subst h1
  exact congrArg _ (cellSem_injective (congrArg Prod.snd h))

/-! ## The schedule -/

variable (y : Dev nD → FVec F S32x1024 .bf16)

/-- Slot `t` of device `c`'s send buffer at contents `f`. -/
def ySlot (c : Dev nD) (t : Fin 32) (f : (cc0_scratch0 : Ref sig .tc).ty.Contents (Elt F)) : sProp 𝕄 :=
  ((c : Thread nD τ).loc cc0_scratch0) ↦[slot t]{fullShare} f
/-- Slot `t` of device `c`'s receive buffer at contents `f`. -/
def rSlot (c : Dev nD) (t : Fin 32) (f : (cc0_scratch1 : Ref sig .tc).ty.Contents (Elt F)) : sProp 𝕄 :=
  ((c : Thread nD τ).loc cc0_scratch1) ↦[slot t]{fullShare} f

/-- A slot of a send buffer can be handed over through a cell. -/
instance ySlot_storable (c : Dev nD) (t : Fin 32) (f) : BI.Storable (upEmb : UEmb _ 𝕄) (ySlot (F := F) c t f) := by unfold ySlot; infer_instance
/-- A slot of a receive buffer can be handed over through a cell. -/
instance rSlot_storable (c : Dev nD) (t : Fin 32) (f) : BI.Storable (upEmb : UEmb _ 𝕄) (rSlot (F := F) c t f) := by unfold rSlot; infer_instance

/-- What the duty named `d` of a cell pays. -/
def pay (ck : Dev nD × Cell) (d : Dev nD) : sProp 𝕄 :=
  match ck.2 with
  | none => iprop(∃ f, rSlot d ck.1 f)
  | some (false, r) => ySlot ck.1 (peer ck.1 r) (sendBuf (y ck.1))
  | some (true, r) => rSlot ck.1 (source ck.1 r) (recvBuf y ck.1)

/-- What a duty pays can be handed over through a cell. -/
instance pay_storable (ck : Dev nD × Cell) (d : Dev nD) : BI.Storable (upEmb : UEmb _ 𝕄) (pay y ck d) := by
  obtain ⟨c, _ | ⟨_ | _, r⟩⟩ := ck <;> dsimp only [pay] <;> infer_instance

/-- The duties of a cell: a barrier's are every other device's, another cell's is its own device's. -/
def dutiesOf (ck : Dev nD × Cell) : Finset (Dev nD) :=
  match ck.2 with
  | none => Finset.univ.erase ck.1
  | some _ => {ck.1}

/-- The units each duty of a cell gives: one at a barrier, a block's credit elsewhere. -/
def amountOf (ck : Dev nD × Cell) : ℕ :=
  match ck.2 with
  | none => 1
  | some _ => N

/-- Every duty gives something. -/
theorem amountOf_pos (ck : Dev nD × Cell) : 0 < amountOf ck := by
  obtain ⟨c, _ | k⟩ := ck
  · exact Nat.one_pos
  · exact N_pos

open Classical in
/-- The schedule: what the cells' table says at a cell of the exchange, nothing elsewhere; one round, round 0. -/
def sched : Rounds.Schedule (GSem nD τ sig) (Dev nD) 𝕄 where
  duties g r := if r = 0 then Function.extend cellAt dutiesOf (fun _ => ∅) g else ∅
  unitless _ := False
  amount g _ _ := Function.extend cellAt amountOf (fun _ => 1) g
  payload g _ := Function.extend cellAt (pay y) (fun _ _ => iprop(emp)) g
  amount_pos g _ _ _ := by
    by_cases h : ∃ ck, cellAt ck = g
    · obtain ⟨ck, rfl⟩ := h; rw [cellAt_injective.extend_apply]; exact amountOf_pos ck
    · rw [Function.extend_apply' _ _ _ h]; exact Nat.one_pos

/-- Every payload of the schedule can be handed over through a cell. -/
instance sched_storable (g : GSem nD τ sig) (r : ℕ) (d : Dev nD) : BI.Storable (upEmb : UEmb _ 𝕄) ((sched y).payload g r d) := by
  show BI.Storable upEmb (Function.extend cellAt (pay y) (fun _ _ => iprop(emp)) g d)
  by_cases h : ∃ ck, cellAt ck = g
  · obtain ⟨ck, rfl⟩ := h; rw [cellAt_injective.extend_apply]; infer_instance
  · rw [Function.extend_apply' _ _ _ h]; infer_instance

/-- The schedule's duties at a cell, in its one round. -/
theorem sched_duties (ck : Dev nD × Cell) : (sched y).duties (cellAt ck) 0 = dutiesOf ck :=
  cellAt_injective.extend_apply dutiesOf (fun _ => ∅) ck
/-- No cell has duties after round 0. -/
theorem sched_duties_later (g : GSem nD τ sig) : ∀ r, 1 ≤ r → (sched y).duties g r = ∅ :=
  fun r hr => if_neg (by omega)
/-- The schedule's amount at a cell. -/
theorem sched_amount (ck : Dev nD × Cell) (d : Dev nD) : (sched y).amount (cellAt ck) 0 d = amountOf ck :=
  cellAt_injective.extend_apply amountOf (fun _ => 1) ck
/-- The schedule's payload at a cell. -/
theorem sched_payload (ck : Dev nD × Cell) (d : Dev nD) : (sched y).payload (cellAt ck) 0 d = pay y ck d :=
  congrFun (cellAt_injective.extend_apply (pay y) (fun _ _ => iprop(emp)) ck) d

/-- A cell's round has as many units as its duties give together. -/
theorem sched_expect (ck : Dev nD × Cell) : (sched y).expect (cellAt ck) 0 = (dutiesOf ck).card * amountOf ck := by
  unfold Schedule.expect Schedule.amountOf
  rw [sched_duties, Finset.sum_congr rfl fun d _ => sched_amount y ck d, Finset.sum_const, smul_eq_mul]

/-- A barrier's round has 31 units. -/
theorem expect_bar (c : Dev nD) : (sched y).expect (barCell c) 0 = 31 := by
  rw [sched_expect]; show (Finset.univ.erase c).card * 1 = 31
  rw [Finset.card_erase_of_mem (Finset.mem_univ c), Finset.card_univ, Fintype.card_fin]; rfl
/-- A send or receive cell's round has one block's credit. -/
theorem expect_own (c : Dev nD) (k : Bool × Fin 31) : (sched y).expect (cellAt (c, some k)) 0 = N := by
  rw [sched_expect]; exact Nat.one_mul _

/-- A cell's whole round: the payloads of its duties. -/
theorem sched_rest (ck : Dev nD × Cell) :
    bigSep ((sched y).duties (cellAt ck) 0 \ ∅) (fun d => (sched y).payload (cellAt ck) 0 d) = bigSep (dutiesOf ck) (pay y ck) := by
  rw [Finset.sdiff_empty, sched_duties]
  exact bigSep_congr fun d _ => sched_payload y ck d

/-- A send or receive cell's whole round is its one payload. -/
theorem rest_own (c : Dev nD) (k : Bool × Fin 31) :
    bigSep ((sched y).duties (cellAt (c, some k)) 0 \ ∅) (fun d => (sched y).payload (cellAt (c, some k)) 0 d) = pay y (c, some k) c := by
  rw [sched_rest]; exact bigSep_singleton

/-- After the barrier a device holds, for each step, its own slot of the receive buffer of that step's peer. -/
theorem rest_bar (c : Dev nD) :
    bigSep ((sched y).duties (barCell c) 0 \ ∅) (fun d => (sched y).payload (barCell c) 0 d)
      = bigSep Finset.univ fun r : Fin 31 => iprop(∃ f, rSlot (peer c r) c f) := by
  rw [sched_rest]
  show bigSep (Finset.univ.erase c) _ = _
  rw [← peers_eq, bigSep_map]; rfl

/-! ## What a device owes; the levels -/

/-- The barrier units that device `c` has yet to give, from device `i` upwards. -/
def barDue (c : Dev nD) (i : ℕ) : CellTallies nD τ sig Unit :=
  ∑ d ∈ Finset.univ.filter (fun d : Dev nD => i ≤ d.val ∧ d ≠ c), tallyAt (barCell d) () 1

/-- The receive credits that device `c` has yet to give, from step `i` upwards. -/
def recvDue (c : Dev nD) (i : ℕ) : CellTallies nD τ sig Unit :=
  ∑ r ∈ Finset.univ.filter (fun r : Fin 31 => i ≤ r.val), tallyAt (recvCell (peer c r) r) () N

/-- What device `c` owes at the start. -/
def owed₀ (c : Dev nD) : CellTallies nD τ sig Unit := barDue c 0 + recvDue c 0

/-- A device owes its own barrier nothing. -/
theorem barDue_self (c : Dev nD) : barDue c c.val = barDue c (c.val + 1) := by
  unfold barDue
  refine Finset.sum_congr (Finset.filter_congr fun d _ => ?_) fun _ _ => rfl
  constructor
  · rintro ⟨h, hn⟩; exact ⟨lt_of_le_of_ne h fun e => hn (Fin.ext e.symm), hn⟩
  · rintro ⟨h, hn⟩; exact ⟨by omega, hn⟩

/-- What is owed to the barriers from device `i` upwards is the unit for `i` and the rest. -/
theorem barDue_step (c i : Dev nD) (h : i ≠ c) : barDue c i.val = barDue c (i.val + 1) + tallyAt (barCell i) () 1 := by
  unfold barDue
  rw [add_comm, ← Finset.sum_insert (f := fun d : Dev nD => tallyAt (barCell d) () 1) (s := Finset.univ.filter (fun d : Dev nD => i.val + 1 ≤ d.val ∧ d ≠ c)) (a := i) (fun hm => by
    have := (Finset.mem_filter.mp hm).2.1; omega)]
  refine Finset.sum_congr (Finset.ext fun d => ?_) fun _ _ => rfl
  simp only [Finset.mem_filter, Finset.mem_insert, Finset.mem_univ, true_and]
  constructor
  · rintro ⟨h1, h2⟩
    by_cases e : d = i
    · exact Or.inl e
    · exact Or.inr ⟨lt_of_le_of_ne h1 fun e' => e (Fin.ext e'.symm), h2⟩
  · rintro (rfl | ⟨h1, h2⟩)
    · exact ⟨le_rfl, h⟩
    · exact ⟨by omega, h2⟩

/-- After the last device no unit is owed to a barrier. -/
theorem barDue_end (c : Dev nD) : barDue c 32 = 0 := by
  unfold barDue
  rw [Finset.filter_false_of_mem fun d _ h => absurd h.1 (by have := d.isLt; simp only [nD] at this; omega)]
  exact Finset.sum_empty

/-- What is owed to the receive cells from step `i` upwards is step `i`'s credit and the rest. -/
theorem recvDue_step (c : Dev nD) (i : Fin 31) : recvDue c i.val = recvDue c (i.val + 1) + tallyAt (recvCell (peer c i) i) () N := by
  unfold recvDue
  rw [add_comm, ← Finset.sum_insert (f := fun r : Fin 31 => tallyAt (recvCell (peer c r) r) () N) (s := Finset.univ.filter (fun r : Fin 31 => i.val + 1 ≤ r.val)) (a := i) (fun hm => by
    have := (Finset.mem_filter.mp hm).2; omega)]
  refine Finset.sum_congr (Finset.ext fun d => ?_) fun _ _ => rfl
  simp only [Finset.mem_filter, Finset.mem_insert, Finset.mem_univ, true_and]
  constructor
  · intro h1
    by_cases e : d = i
    · exact Or.inl e
    · exact Or.inr (lt_of_le_of_ne h1 fun e' => e (Fin.ext e'.symm))
  · rintro (rfl | h1)
    · exact le_rfl
    · omega

/-- After the last step no receive credit is owed. -/
theorem recvDue_end (c : Dev nD) : recvDue c 31 = 0 := by
  unfold recvDue
  rw [Finset.filter_false_of_mem fun r _ h => absurd h (by have := r.isLt; omega)]
  exact Finset.sum_empty

/-- A sum of tallies, read at a counter, is the sum of the readings. -/
theorem sum_tally_apply {I : Type} (S : Finset I) (T : I → CellTallies nD τ sig Unit) (g : GSem nD τ sig) (u : Unit) :
    (∑ i ∈ S, T i) g u = ∑ i ∈ S, T i g u := by
  rw [Finset.sum_apply, Finsupp.finset_sum_apply]

/-- A tally at one counter is zero at every other. -/
theorem tally_pos {g g' : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

/-- Receive credits are owed to receive cells only. -/
theorem recvDue_pos {c : Dev nD} {i : ℕ} {g : GSem nD τ sig} {u : Unit} (h : 0 < recvDue c i g u) : ∃ d r, g = recvCell d r := by
  unfold recvDue at h
  rw [sum_tally_apply] at h
  obtain ⟨r, -, hr⟩ := Finset.exists_ne_zero_of_sum_ne_zero (Nat.pos_iff_ne_zero.mp h)
  exact ⟨peer c r, r, tally_pos (Nat.pos_of_ne_zero hr)⟩

/-- Barrier units are owed to barrier cells only. -/
theorem barDue_pos {c : Dev nD} {i : ℕ} {g : GSem nD τ sig} {u : Unit} (h : 0 < barDue c i g u) : ∃ d, g = barCell d := by
  unfold barDue at h
  rw [sum_tally_apply] at h
  obtain ⟨d, -, hd⟩ := Finset.exists_ne_zero_of_sum_ne_zero (Nat.pos_iff_ne_zero.mp h)
  exact ⟨d, tally_pos (Nat.pos_of_ne_zero hd)⟩

/-- What is owed at the start is owed to receive and barrier cells only. -/
theorem owed₀_pos {c : Dev nD} {g : GSem nD τ sig} {u : Unit} (h : 0 < owed₀ c g u) : (∃ d r, g = recvCell d r) ∨ ∃ d, g = barCell d := by
  unfold owed₀ at h
  rw [Pi.add_apply, Finsupp.add_apply] at h
  rcases Nat.eq_zero_or_pos (recvDue c 0 g u) with h0 | h0
  · exact Or.inr (barDue_pos (by rw [h0] at h; exact h))
  · exact Or.inl (recvDue_pos h0)

/-- A cell's level: a wait on it is allowed while only cells of higher level are owed. -/
def levelOf (ck : Dev nD × Cell) : ℕ :=
  match ck.2 with
  | none => 1
  | some (false, _) => 0
  | some (true, _) => 2

/-- Every counter of a TensorCore has a level. -/
def L (g : GSem nD τ sig) : Finset Unit := if g.1.2 = .tc then {()} else ∅
open Classical in
/-- A barrier cell below the receive cells, every other cell at the bottom. -/
def lv (g : GSem nD τ sig) (_ : Unit) : ℕ := Function.extend cellAt levelOf (fun _ => 0) g

/-- No other counter has one. -/
theorem L_of_ne (g : GSem nD τ sig) (h : g.1.2 ≠ .tc) : L g = ∅ := if_neg h
/-- A TensorCore's counter has one. -/
theorem L_tc (c : Dev nD) (sm : SemLoc sig) : L ((c : Thread nD τ), sm) = {()} := if_pos rfl
/-- The level of a cell of the exchange. -/
theorem lv_cell (ck : Dev nD × Cell) (u : Unit) : lv (cellAt ck) u = levelOf ck := cellAt_injective.extend_apply _ _ ck
/-- The level of any other counter is zero. -/
theorem lv_other (g : GSem nD τ sig) (h : ¬ ∃ ck, cellAt ck = g) (u : Unit) : lv g u = 0 := Function.extend_apply' _ _ _ h

/-- A wait on a cell that is none of the exchange's may owe what a device owes at the start. -/
theorem mayWait_stage (c : Dev nD) (q : DmaSem sig) (hq : q.val < 3) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed₀_pos hg with ⟨d, r, rfl⟩ | ⟨d, rfl⟩ <;> exact Finset.mem_singleton_self _)
      (fun p hp => by
        rw [Finset.mem_singleton.mp hp, lv_other]
        rintro ⟨⟨d, _ | ⟨_ | _, r⟩⟩, h⟩
        · cases congrArg Prod.snd h
        · have := congrArg Fin.val (SemLoc.dma.inj (congrArg Prod.snd h)); rw [semAt_send_val] at this; omega
        · have := congrArg Fin.val (SemLoc.dma.inj (congrArg Prod.snd h)); rw [semAt_recv_val] at this; omega)
      (fun g u hg => by
        rcases owed₀_pos hg with ⟨d, r, rfl⟩ | ⟨d, rfl⟩
        · rw [lv_cell]; exact Nat.two_pos
        · rw [lv_cell]; exact Nat.one_pos)
  · rw [MayWait_zero]; iintro -; iempintro

/-- At its barrier wait a device owes receive credits only, which lie above the barrier. -/
theorem mayWait_bar (c : Dev nD) : (levAts L lv : sProp 𝕄) ⊢ MayWait (c : Thread nD τ) (.reg barS) () (recvDue c 0) :=
  MayOwe.of_cut (L := L) (lev := lv) 1 (fun p hp => by rw [Finset.mem_singleton.mp hp, L_tc]; exact Finset.mem_singleton_self _)
    (fun g u hg => by obtain ⟨d, r, rfl⟩ := recvDue_pos hg; exact Finset.mem_singleton_self _)
    (fun p hp => by rw [Finset.mem_singleton.mp hp]; exact (lv_cell (c, none) ()).le)
    (fun g u hg => by obtain ⟨d, r, rfl⟩ := recvDue_pos hg; rw [lv_cell]; exact Nat.one_lt_two)

end Cert.KernelIdeal.Exchange

end
-- ==== Proof.KernelIdeal.Phases.lean ====
/- Each family of steps of the exchange, run in order, against the schedule.

   A family goes through one rule, `wp_inOrder`: what step `i` takes and gives up, and what passes from step to step. Below it, one
   lemma per kind of step: a signal, a slot filled, a block sent, a block awaited, a send awaited. -/
module

public import proofs.«01_k».proof.Proof.KernelIdeal.Protocol

@[expose] public section

noncomputable section

namespace Cert.KernelIdeal.Exchange

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop variants: the body has no loop. -/
abbrev 𝒱₀ : Variants := Variants.none

/-- The program `p` on device `c`, run to `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A family over `n + 1` indices is its first member and the rest. -/
theorem bigSep_first {n : ℕ} (P : Fin (n + 1) → sProp 𝕄) :
    bigSep Finset.univ P = iprop(P 0 ∗ bigSep Finset.univ fun i : Fin n => P i.succ) := by
  rw [Fin.univ_succ, Finset.cons_eq_insert, bigSep_insert (by simp [Fin.succ_ne_zero]), bigSep_map]; rfl

/-- A family of steps: step `i` takes `P i` to `Q i`, carrying `R i` to `R (i + 1)`. -/
theorem wp_inOrder (c : Dev nD) (n : ℕ) (f : Fin n → Act F) (P Q : Fin n → sProp 𝕄) (R : ℕ → sProp 𝕄)
    (h : ∀ i, iprop(P i ∗ R i.val) ⊢ runs c (f i) fun _ => iprop(Q i ∗ R (i.val + 1))) (Kt : PUnit → sProp 𝕄) :
    iprop(bigSep Finset.univ P ∗ R 0 ∗ (iprop(bigSep Finset.univ Q ∗ R n) -∗ Kt ⟨⟩)) ⊢ runs c (inOrder n f) Kt := by
  induction n generalizing R Kt with
  | zero =>
    show _ ⊢ wp frame _ Set.univ (.ret PUnit.unit) Kt
    rw [wp_ret]
    iintro ⟨-, HR, Hk⟩
    imodintro
    iapply Hk
    isplitr
    · rw [show (Finset.univ : Finset (Fin 0)) = ∅ from rfl, bigSep_empty]; iempintro
    iexact HR
  | succ n ih =>
    show _ ⊢ wp frame _ Set.univ (f 0 >>= fun _ => inOrder n fun i => f i.succ) Kt
    rw [wp_bind, bigSep_first P, bigSep_first Q]
    have step : iprop((P 0 ∗ R 0) ∗ ((bigSep Finset.univ fun i : Fin n => P i.succ) ∗ (iprop((Q 0 ∗ bigSep Finset.univ fun i : Fin n => Q i.succ) ∗ R (n + 1)) -∗ Kt ⟨⟩)))
        ⊢ wp frame (wpE (defs₀ (F := F)) 𝒱₀ (c : Thread nD τ) none) Set.univ (f 0) (fun _ => iprop((Q 0 ∗ R 1) ∗ ((bigSep Finset.univ fun i : Fin n => P i.succ)
          ∗ (iprop((Q 0 ∗ bigSep Finset.univ fun i : Fin n => Q i.succ) ∗ R (n + 1)) -∗ Kt ⟨⟩)))) :=
      (sep_mono_left (h 0)).trans (wp_frame_r _ _ _)
    refine BIBase.Entails.trans ?_ (step.trans (wp_mono _ _ _ fun _ => BIBase.Entails.trans ?_
      (ih (fun i => f i.succ) (fun i => P i.succ) (fun i => Q i.succ) (fun j => R (j + 1)) (fun i => h i.succ) Kt)))
    · iintro ⟨⟨HP0, HP⟩, HR, Hk⟩
      isplitl [HP0 HR]
      · isplitl [HP0] <;> iassumption
      isplitl [HP] <;> iassumption
    · iintro ⟨⟨HQ0, HR⟩, HP, Hk⟩
      isplitl [HP]; · iexact HP
      isplitl [HR]; · iexact HR
      iintro ⟨HQ, HR⟩
      iapply Hk
      isplitr [HR]
      · isplitl [HQ0] <;> iassumption
      iexact HR

variable (y : Dev nD → FVec F S32x1024 .bf16) (K : Dev nD × Cell → ℕ)

/-! ## What every device knows -/

/-- The invariant of every cell of the exchange, and that every cell has reached round 0. -/
def records : sProp 𝕄 :=
  bigSep Finset.univ fun ck : Dev nD × Cell => iprop(cellInv ER (sched y) (K ck) (cellAt ck) ∗ reached ER (cellAt ck) 0)

/-- The records can be used any number of times. -/
instance records_persistent : BI.Persistent (records y K) := by unfold records; infer_instance

/-- The records hold each cell's invariant and mark. -/
theorem records_at (ck : Dev nD × Cell) : records y K ⊢ iprop(cellInv ER (sched y) (K ck) (cellAt ck) ∗ reached ER (cellAt ck) 0) :=
  bigSep_elim (Finset.mem_univ ck)

/-- What passes from step to step: the records, and that the device owes `O`. -/
def carry (c : Dev nD) (O : CellTallies nD τ sig Unit) : sProp 𝕄 :=
  iprop(records y K ∗ ∃ W, owes (c : Thread nD τ) O W)

/-! ## What each cell pays -/

/-- Device `d` pays device `c`'s barrier with slot `c` of its own receive buffer. -/
theorem pay_bar (c d : Dev nD) : pay y (c, none) d = iprop(∃ f, rSlot d c f) := rfl
/-- A send cell is paid with the slot sent, unchanged. -/
theorem pay_send (c d : Dev nD) (r : Fin 31) : pay y (c, some (false, r)) d = ySlot c (peer c r) (sendBuf (y c)) := rfl
/-- A receive cell is paid with the slot received, at its final contents. -/
theorem pay_recv (c d : Dev nD) (r : Fin 31) : pay y (c, some (true, r)) d = rSlot c (source c r) (recvBuf y c) := rfl

/-! ## The signals -/

/-- The body's condition on signalling device `k`, on device `d`: that the two differ. -/
theorem signal_cond : ∀ d k : Fin 32,
    (Scalar.cmpi .ne (Scalar.extui (Scalar.cmpi .ne (Scalar.remsi (Scalar.divsi (BitVec.ofNat 32 d.val) 1#32) 32#32) (BitVec.ofNat 32 k.val)) : BitVec 32) 0#32 = 1#1) ↔ k ≠ d := by
  decide +kernel

/-- The signal of device `i`: its barrier's duty is paid with the slot it will send into; none goes to the device itself. -/
theorem signal_step (c : Dev nD) (i : Dev nD) :
    iprop((iprop(∃ f, rSlot c i f) ∗ dutyTok ER (barCell i) 0 c) ∗ carry y K c (barDue c i.val + recvDue c 0))
      ⊢ runs c (signal c i) fun _ => iprop((if i = c then iprop(∃ f, rSlot c c f) else iprop(emp)) ∗ carry y K c (barDue c (i.val + 1) + recvDue c 0)) := by
  unfold signal
  by_cases h : i = c
  · subst h
    rw [if_neg (fun hc => (signal_cond i i).mp hc rfl), if_pos rfl, barDue_self]
    show _ ⊢ wp frame _ Set.univ (.ret PUnit.unit) _
    rw [wp_ret]
    iintro ⟨⟨Hr, -⟩, Hc⟩
    imodintro
    isplitl [Hr] <;> iassumption
  · rw [if_pos ((signal_cond c i).mpr h), if_neg h]
    simp only [semSignalWord, Prog.lift, Prog.bind_op, Prog.bind_ret, Prog.pure_eq_ret]
    unfold carry
    iintro ⟨⟨Hr, Ht⟩, #Hrec, %W, HO⟩
    ihave Hi := (records_at y K (i, none)) $$ Hrec
    icases Hi with ⟨#HI, #HR⟩
    iapply (Rounds.wp_signal 𝒱₀ ER (sched y) (c : Thread nD τ) none (dst := (i : Thread nD τ)) (κ := K (i, none)) (d := c)
        (by rw [show ((i : Thread nD τ), SemLoc.reg barS) = cellAt (i, none) from rfl, sched_duties]; exact Finset.mem_erase.mpr ⟨fun e => h e.symm, Finset.mem_univ c⟩)
        ((sched_amount y (i, none) c).trans ((show amountOf (i, none) = 1 from rfl).trans (by decide))) () (O₀ := barDue c i.val + recvDue c 0) (barDue c (i.val + 1) + recvDue c 0)
        (by rw [barDue_step c i h]; exact add_right_comm _ _ _)) $$ [Hr Ht HO]
    · isplitr; · iexact HI
      isplitl [HO]; · iexact HO
      isplitl [Ht]; · iexact Ht
      isplitl [Hr]; · rw [show ((i : Thread nD τ), SemLoc.reg barS) = cellAt (i, none) from rfl, sched_payload, pay_bar]; iexact Hr
      iexact HR
    iintro HO
    rw [wp_ret]; imodintro
    isplitr; · iempintro
    isplitr; · iexact Hrec
    iexists W; iexact HO

/-! ## The send buffer's slots filled -/

/-- The elements a slot's load reads, of either buffer. -/
theorem loads_y (t : Fin 32) : (yM : Memref sig .tc .vmem S32x32x32 .bf16).view.setOn (slotRect t).toLoadRect.set ⊆ slot t := by
  have h := (View.set_slice_whole cc0_scratch0 (slotRect t)).subset
  rwa [View.set_slice] at h
/-- The same of the receive buffer. -/
theorem loads_r (t : Fin 32) : (rM : Memref sig .tc .vmem S32x32x32 .bf16).view.setOn (slotRect t).toLoadRect.set ⊆ slot t := by
  have h := (View.set_slice_whole cc0_scratch1 (slotRect t)).subset
  rwa [View.set_slice] at h

/-- Slot `t` takes column block `t`; `R` is whatever else passes by. -/
theorem fill_step (v : FVec F S32x1024 .bf16) (c : Dev nD) (t : Fin 32) (R : ℕ → sProp 𝕄) (hR : R (t.val + 1) = R t.val) :
    iprop(iprop(∃ f, ySlot c t f) ∗ R t.val)
      ⊢ runs c (fill yM (Memref.isWhole_whole _) v t) fun _ => iprop(ySlot c t (sendBuf v) ∗ R (t.val + 1)) := by
  unfold fill ySlot
  simp only [Prog.lift, Prog.bind_op, Prog.bind_ret, Prog.pure_eq_ret]
  iintro ⟨⟨%f, Hy⟩, HR⟩
  iapply (wp_load 𝒱₀ (c : Thread nD τ) none Set.univ (m := yM) (S := slot t) (loads_y t)) $$ Hy; iintro Hy
  iapply (wp_store 𝒱₀ (c : Thread nD τ) none Set.univ (m := yM) (r := slotRect t) (Mk := Finset.univ) (S := slot t)
    (by rw [View.setOn_univ, View.set_slice_whole])) $$ Hy; iintro Hy
  rw [wp_ret, hR]; imodintro
  isplitl [Hy]
  · ihave Hy := (Entails.of_eq (pointsTo_congr fun i hi => fill_eq v t f i hi)) $$ Hy
    iexact Hy
  iexact HR

/-! ## The blocks sent -/

/-- Step `r`'s send: the peer's slot for the device was handed over at the barrier; it lands there with the block in it, and the
    send buffer's slot goes to the send cell. -/
theorem send_step (c : Dev nD) (r : Fin 31) :
    iprop((ySlot c (peer c r) (sendBuf (y c)) ∗ iprop(∃ f, rSlot (peer c r) c f) ∗ dutyTok ER (sendCell c r) 0 c ∗ dutyTok ER (recvCell (peer c r) r) 0 (peer c r))
        ∗ carry y K c (recvDue c r.val))
      ⊢ runs c (send yM (Memref.isWhole_whole _) rM (Memref.isWhole_whole _) cc0_scratch2 cc0_scratch3 c r)
          fun _ => iprop(cred (tallyAt (sendCell c r) () N) ∗ carry y K c (recvDue c (r.val + 1))) := by
  unfold send carry
  generalize_proofs h1 h2 h3 h4 h5 h6
  revert h1 h2 h3 h4 h5 h6
  rw [off2_peer, k0_off1_eq]
  intro h1 h2 h3 h4 h5 h6
  simp only [Prog.lift, Prog.bind_op, Prog.bind_ret, Prog.pure_eq_ret]
  unfold ySlot rSlot
  iintro ⟨⟨Hy, ⟨%f, Hr⟩, HtS, HtV⟩, #Hrec, %W, HO⟩
  ihave Hi := (records_at y K (c, some (false, r))) $$ Hrec
  icases Hi with ⟨#HIs, #HRs⟩
  ihave Hj := (records_at y K (peer c r, some (true, r))) $$ Hrec
  icases Hj with ⟨#HIv, #HRv⟩
  iapply (Rounds.wp_send_pointsTo 𝒱₀ ER (sched y) (c : Thread nD τ) none (κ₁ := K (c, some (false, r))) (κ₂ := K (peer c r, some (true, r)))
    (c' := (peer c r : Thread nD τ)) (src := slotAt yM ![(peer c r).val, 0, 0] (slot_inb (peer c r))) (dst := slotAt rM ![c.val, 0, 0] (slot_inb c))
    (q := fullShare) (fs := sendBuf (y c)) (sS := .dma (semAt cc0_scratch2 r)) (sem := .dma (semAt cc0_scratch3 r))
    (r₁ := 0) (r₂ := 0) (d₁ := c) (d₂ := peer c r) (fd := f)
    (by rw [show ((c : Thread nD τ), SemLoc.dma (semAt cc0_scratch2 r)) = cellAt (c, some (false, r)) from rfl, sched_duties]; exact Finset.mem_singleton_self _)
    (by rw [show ((peer c r : Thread nD τ), SemLoc.dma (semAt cc0_scratch3 r)) = cellAt (peer c r, some (true, r)) from rfl, sched_duties]; exact Finset.mem_singleton_self _)
    () () N rfl (sched_amount y (c, some (false, r)) c) (sched_amount y (peer c r, some (true, r)) (peer c r)) (recvDue c (r.val + 1)) (O₀ := recvDue c r.val) (recvDue_step c r) (W := W)
    (by
      rw [show ((c : Thread nD τ), SemLoc.dma (semAt cc0_scratch2 r)) = cellAt (c, some (false, r)) from rfl, sched_payload, pay_send]
      unfold ySlot
      rw [slotAt_set_y])
    (by
      rw [show ((peer c r : Thread nD τ), SemLoc.dma (semAt cc0_scratch3 r)) = cellAt (peer c r, some (true, r)) from rfl, sched_payload, pay_recv, source_peer]
      unfold rSlot
      rw [slotAt_set_r]; exact Entails.of_eq (pointsTo_congr fun i hi => landed_eq y c (peer c r) f i hi)))
    $$ [Hy Hr HtS HtV HO]
  · isplitr; · iexact HIs
    isplitr; · iexact HIv
    isplitl [Hy]; · rw [slotAt_set_y]; iexact Hy
    isplitl [Hr]; · rw [slotAt_set_r]; iexact Hr
    isplitl [HO]; · iexact HO
    isplitl [HtS]; · iexact HtS
    isplitr; · iexact HRs
    isplitl [HtV]; · iexact HtV
    iexact HRv
  iintro ⟨Hc, HO⟩
  rw [wp_ret]; imodintro
  isplitl [Hc]; · iexact Hc
  isplitr; · iexact Hrec
  iexists W; iexact HO

/-! ## The waits -/

/-- A wait for a whole transfer on one of the device's own cells, which is then closed: what the cell's duty paid is the device's. -/
theorem own_wait (c : Dev nD) (k : Bool × Fin 31) (w : TpuEff nD τ sig (Elt F) Λ₀ .tc PUnit)
    (hw : ∀ Kp : PUnit → sProp 𝕄, wpE (defs₀ (F := F)) 𝒱₀ (c : Thread nD τ) none Set.univ w Kp = waitSpec (c : Thread nD τ) Set.univ (ownSem k) N Kp) :
    iprop((atPos ER (cellAt (c, some k)) 0 ∅ 0 ∗ cred (tallyAt (cellAt (c, some k)) () N)) ∗ carry y K c 0)
      ⊢ runs c (.op w .ret) fun _ => iprop((semVal (cellAt (c, some k)) 0 ∗ pay y (c, some k) c) ∗ carry y K c 0) := by
  unfold carry
  iintro ⟨⟨Hat, Hcr⟩, #Hrec, %W, HO⟩
  ihave Hi := (records_at y K (c, some k)) $$ Hrec
  icases Hi with ⟨#HI, -⟩
  iapply (Rounds.wp_wait_rest_token 𝒱₀ ER (sched y) (c : Thread nD τ) none (κ := K (c, some k))
      hw (Set.mem_univ _) () (O := 0) (W := W) (R := 0) (m := 0) (T := ∅)
      (by rw [Nat.zero_add]; exact (expect_own y c k).symm)) $$ [Hat Hcr HO]
  · isplitr; · iexact HI
    isplitl [Hcr]; · iexact Hcr
    isplitl [HO]; · iexact HO
    isplitr; · rw [MayWait_zero]; iempintro
    iexact Hat
  iintro ⟨HO, Hat, -, Hpay⟩
  ihave Hp := (Entails.of_eq (rest_own y c k)) $$ Hpay
  rw [wp_ret]
  imod (Rounds.cell_close ER (sched y) (Set.mem_univ (K (c, some k))) (fun h => h) (R := 0 + 1) (sched_duties_later y (cellAt (c, some k)))) $$ [Hat] with Hz
  · isplitr; · iexact HI
    iexact Hat
  imodintro
  isplitl [Hz Hp]
  · isplitl [Hz] <;> iassumption
  isplitr; · iexact Hrec
  iexists _; iexact HO

/-- Step `r`'s receive wait gives the slot of the device `r + 1` further back, with the block it sent. -/
theorem awaitRecv_step (c : Dev nD) (r : Fin 31) :
    iprop((atPos ER (recvCell c r) 0 ∅ 0 ∗ cred (tallyAt (recvCell c r) () N)) ∗ carry y K c 0)
      ⊢ runs c (awaitRecv yM (Memref.isWhole_whole _) rM (Memref.isWhole_whole _) cc0_scratch3 c r)
          fun _ => iprop((semVal (recvCell c r) 0 ∗ rSlot c (source c r) (recvBuf y c)) ∗ carry y K c 0) :=
  own_wait y K c (true, r) _ (wpE_waitDma2_eq 𝒱₀ (c : Thread nD τ) none Set.univ)

/-- Step `r`'s send wait gives the send buffer's slot back. -/
theorem awaitSend_step (c : Dev nD) (r : Fin 31) :
    iprop((atPos ER (sendCell c r) 0 ∅ 0 ∗ cred (tallyAt (sendCell c r) () N)) ∗ carry y K c 0)
      ⊢ runs c (awaitSend yM (Memref.isWhole_whole _) rM (Memref.isWhole_whole _) cc0_scratch2 c r)
          fun _ => iprop((semVal (sendCell c r) 0 ∗ ySlot c (peer c r) (sendBuf (y c))) ∗ carry y K c 0) :=
  own_wait y K c (false, r) _ (wpE_waitDma2_eq 𝒱₀ (c : Thread nD τ) none Set.univ)

/-! ## The device's own block, and the result -/

/-- The device's own block, from its send buffer into its receive buffer. -/
def storeOwn (c : Dev nD) : Act F := do
  let own : Vec F S1x32x32 .bf16 ← Prog.lift (.load yM (Rect.unit (s := S32x32x32) (k0_off3 c) S1x32x32.size (k0_off3_inb c)).toLoadRect (View.loadsAt_vmem h_S1x32x32))
  let _ : Vec F S1x32x32 .bf16 ← Prog.lift (.load rM (Rect.unit (s := S32x32x32) (k0_off3 c) S1x32x32.size (k0_off3_inb c)).toLoadRect (View.loadsAt_vmem h_S1x32x32))
  Prog.lift (.store rM (Rect.unit (s := S32x32x32) (k0_off3 c) S1x32x32.size (k0_off3_inb c)) (k0_pay40 (k0_pay39 own)) Finset.univ (View.stores_vmem h_S1x32x32 ((Memref.isWhole_whole _).storeExact_slice rfl _ (k0_off3_packedbf16 c)) (fun _ => rfl)) (.inl rfl))

/-- The receive buffer read whole and stored as the result. -/
def emit : Act F := do
  let got : Vec F S32x32x32 .bf16 ← Prog.lift (.load rM (Rect.unit (s := S32x32x32) ![0, 0, 0] S32x32x32.size inb_S32x32x32_S32x32x32_0_0_0).toLoadRect (View.loadsAt_vmem h_S32x32x32))
  let _ : Vec F S1024x32 .f32 ← Prog.lift (.load oM (Rect.unit (s := S1024x32) ![0, 0] S1024x32.size inb_S1024x32_S1024x32_0_0).toLoadRect (View.loadsAt_vmem h_S1024x32))
  Prog.lift (.store oM (Rect.unit (s := S1024x32) ![0, 0] S1024x32.size inb_S1024x32_S1024x32_0_0) (k0_pay41 got) Finset.univ (View.stores_vmem_bits_univ h_S1024x32 rfl) (.inl rfl))

/-- The exchange as the sequence of its parts. -/
theorem exchange_eq (c : Dev nD) :
    (exchange oM yM (Memref.isWhole_whole _) rM (Memref.isWhole_whole _) cc0_scratch2 cc0_scratch3 c : Act F) =
      (semWaitWord barS 31#32 >>= fun _ =>
       inOrder 31 (send yM (Memref.isWhole_whole _) rM (Memref.isWhole_whole _) cc0_scratch2 cc0_scratch3 c) >>= fun _ =>
       storeOwn c >>= fun _ =>
       inOrder 31 (awaitRecv yM (Memref.isWhole_whole _) rM (Memref.isWhole_whole _) cc0_scratch3 c) >>= fun _ =>
       emit >>= fun _ =>
       inOrder 31 (awaitSend yM (Memref.isWhole_whole _) rM (Memref.isWhole_whole _) cc0_scratch2 c)) := rfl

/-- The device's own column block is copied into its own slot of the receive buffer. -/
theorem storeOwn_step (c : Dev nD) :
    iprop(ySlot c c (sendBuf (y c)) ∗ ∃ f, rSlot c c f)
      ⊢ runs c (storeOwn c) fun _ => iprop(ySlot c c (sendBuf (y c)) ∗ rSlot c c (recvBuf y c)) := by
  unfold storeOwn
  generalize_proofs h1 h2 h3 h4 h5
  revert h1 h2 h3 h4 h5
  rw [k0_off3_eq]
  intro h1 h2 h3 h4 h5
  simp only [Prog.lift, Prog.bind_op, Prog.bind_ret, Prog.pure_eq_ret]
  unfold ySlot rSlot
  iintro ⟨Hy, ⟨%f, Hr⟩⟩
  iapply (wp_load 𝒱₀ (c : Thread nD τ) none Set.univ (m := yM) (S := slot c) (loads_y c)) $$ Hy; iintro Hy
  iapply (wp_load 𝒱₀ (c : Thread nD τ) none Set.univ (m := rM) (S := slot c) (loads_r c)) $$ Hr; iintro Hr
  iapply (wp_store 𝒱₀ (c : Thread nD τ) none Set.univ (m := rM) (r := slotRect c) (Mk := Finset.univ) (S := slot c)
    (by rw [View.setOn_univ, View.set_slice_whole])) $$ Hr; iintro Hr
  rw [wp_ret]; imodintro
  isplitl [Hy]; · iexact Hy
  ihave Hr := (Entails.of_eq (pointsTo_congr fun i hi => own_eq y c f i hi)) $$ Hr
  iexact Hr

/-- Three zero offsets, as a constant function. -/
theorem zeros3 : (![0, 0, 0] : Fin 3 → Nat) = fun _ => 0 := funext fun a => by fin_cases a <;> rfl
/-- Two zero offsets, as a constant function. -/
theorem zeros2 : (![0, 0] : Fin 2 → Nat) = fun _ => 0 := funext fun a => by fin_cases a <;> rfl

/-- A load of all the staged rows of `x` reads their contents. -/
theorem read_x (f : (cc0_stg0_0 : Ref sig .tc).ty.Contents (Elt F)) :
    (xM : Memref sig .tc .vmem S32x1024 .bf16).view.readAt (Elt F) (Rect.unit (s := S32x1024) ![0, 0] S32x1024.size inb_S32x1024_S32x1024_0_0).toLoadRect f = f :=
  Memref.readAt_unit_zero (Elt F) cc0_stg0_0 zeros2 _ f
/-- The same load of the weights. -/
theorem read_w (f : (cc0_stg1_0 : Ref sig .tc).ty.Contents (Elt F)) :
    (wM : Memref sig .tc .vmem S1024x1024 .bf16).view.readAt (Elt F) (Rect.unit (s := S1024x1024) ![0, 0] S1024x1024.size inb_S1024x1024_S1024x1024_0_0).toLoadRect f = f :=
  Memref.readAt_unit_zero (Elt F) cc0_stg1_0 zeros2 _ f
/-- The same load of the receive buffer. -/
theorem read_r (f : (cc0_scratch1 : Ref sig .tc).ty.Contents (Elt F)) :
    (rM : Memref sig .tc .vmem S32x32x32 .bf16).view.readAt (Elt F) (Rect.unit (s := S32x32x32) ![0, 0, 0] S32x32x32.size inb_S32x32x32_S32x32x32_0_0_0).toLoadRect f = f :=
  Memref.readAt_unit_zero (Elt F) cc0_scratch1 zeros3 _ f
/-- A whole store into the result's buffer leaves the stored value. -/
theorem write_o (f w : (cc0_stg2_0 : Ref sig .tc).ty.Contents (Elt F)) :
    ((oM : Memref sig .tc .vmem S1024x32 .f32).access (Rect.unit (s := S1024x32) ![0, 0] S1024x32.size inb_S1024x32_S1024x32_0_0) : View sig .tc _ _ _).write (Elt F) f w Finset.univ = w :=
  Memref.write_access_unit_zero_univ (Elt F) cc0_stg2_0 zeros2 _ f w

/-- The device's receive buffer, whole. -/
def rWhole (c : Dev nD) (f : (cc0_scratch1 : Ref sig .tc).ty.Contents (Elt F)) : sProp 𝕄 :=
  ((c : Thread nD τ).loc cc0_scratch1) ↦{fullShare} f
/-- The device's result buffer, whole. -/
def outWhole (c : Dev nD) (f : (cc0_stg2_0 : Ref sig .tc).ty.Contents (Elt F)) : sProp 𝕄 :=
  ((c : Thread nD τ).loc cc0_stg2_0) ↦{fullShare} f

/-- The receive buffer, read whole and widened, becomes the result. -/
theorem emit_step (c : Dev nD) (f : (cc0_scratch1 : Ref sig .tc).ty.Contents (Elt F)) (g : (cc0_stg2_0 : Ref sig .tc).ty.Contents (Elt F)) :
    iprop(rWhole c f ∗ outWhole c g) ⊢ runs c emit fun _ => iprop(rWhole c f ∗ outWhole c (k0_pay41 f)) := by
  unfold emit rWhole outWhole
  simp only [Prog.lift, Prog.bind_op, Prog.bind_ret, Prog.pure_eq_ret]
  iintro ⟨Hr, Ho⟩
  iapply (wp_load 𝒱₀ (c : Thread nD τ) none Set.univ (m := rM) (Finset.subset_univ _)) $$ Hr; iintro Hr
  iapply (wp_load 𝒱₀ (c : Thread nD τ) none Set.univ (m := oM) (Finset.subset_univ _)) $$ Ho; iintro Ho
  iapply (wp_store 𝒱₀ (c : Thread nD τ) none Set.univ (m := oM) (r := Rect.unit (s := S1024x32) ![0, 0] S1024x32.size inb_S1024x32_S1024x32_0_0) (Mk := Finset.univ) (Finset.subset_univ _)) $$ Ho; iintro Ho
  rw [write_o, read_r, wp_ret]; imodintro
  isplitl [Hr] <;> iassumption

end Cert.KernelIdeal.Exchange

end
-- ==== Proof.KernelIdeal.Body.lean ====
/- The whole body of one device, from its share of the exchange to its result, and the pipeline's obligation for it. -/
module

public import proofs.«01_k».proof.Proof.KernelIdeal.Phases
public import proofs.«01_k».proof.Proof.Gen.KernelIdeal.Points

@[expose] public section

noncomputable section

namespace Cert.KernelIdeal.Exchange

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families over cells and over devices -/

/-- A family over a device's cells: the barrier, then its own. -/
theorem bigSep_own (Φ : Cell → sProp 𝕄) : bigSep Finset.univ Φ = iprop(Φ none ∗ bigSep Finset.univ fun k : Bool × Fin 31 => Φ (some k)) := by
  rw [bigSep_univ_equiv (Equiv.optionEquivSumPUnit.{0, 0} (Bool × Fin 31)).symm Φ, bigSep_univ_sum, bigSep_univ_of_subsingleton PUnit.unit]
  exact equiv_iff.mp ⟨BI.sep_comm, BI.sep_comm⟩

/-- A family over a device's cells: the barrier, the send cells, the receive cells. -/
theorem bigSep_cells (Φ : Cell → sProp 𝕄) :
    bigSep Finset.univ Φ = iprop(Φ none ∗ (bigSep Finset.univ fun r : Fin 31 => Φ (some (false, r))) ∗ bigSep Finset.univ fun r : Fin 31 => Φ (some (true, r))) := by
  rw [bigSep_own, bigSep_univ_prod, show (Finset.univ : Finset Bool) = {false, true} by decide, bigSep_insert (by decide), bigSep_singleton]
  rfl

/-- A family over the devices: the device itself, then the peer of each step. -/
theorem bigSep_peers (c : Dev nD) (Φ : Dev nD → sProp 𝕄) : bigSep Finset.univ Φ = iprop(Φ c ∗ bigSep Finset.univ fun r : Fin 31 => Φ (peer c r)) := by
  rw [bigSep_univ_at Φ c, ← peers_eq, bigSep_map]; rfl

/-- A family over the devices: the device itself, then the source of each step. -/
theorem bigSep_sources (c : Dev nD) (Φ : Dev nD → sProp 𝕄) : bigSep Finset.univ Φ = iprop(Φ c ∗ bigSep Finset.univ fun r : Fin 31 => Φ (source c r)) := by
  rw [bigSep_univ_at Φ c, ← sources_eq, bigSep_map]; rfl

/-! ## Buffers as slots -/

/-- The send buffer at any contents is its slots, each at some contents. -/
theorem ySlots_intro (c : Dev nD) (f : (cc0_scratch0 : Ref sig .tc).ty.Contents (Elt F)) :
    (((c : Thread nD τ).loc cc0_scratch0) ↦{fullShare} f : sProp 𝕄) ⊢ bigSep Finset.univ fun t : Fin 32 => iprop(∃ f, ySlot c t f) :=
  (Entails.of_eq (Ring.pointsTo_blocks (ℓ := (c : Thread nD τ).loc cc0_scratch0) slot slot_disjoint slot_cover f)).trans
    (bigSep_mono fun t _ => show ySlot c t f ⊢ iprop(∃ f, ySlot c t f) by iintro H; iexists f; iexact H)

/-- The receive buffer at any contents is its slots, each at some contents. -/
theorem rSlots_intro (c : Dev nD) (f : (cc0_scratch1 : Ref sig .tc).ty.Contents (Elt F)) :
    (((c : Thread nD τ).loc cc0_scratch1) ↦{fullShare} f : sProp 𝕄) ⊢ bigSep Finset.univ fun t : Fin 32 => iprop(∃ f, rSlot c t f) :=
  (Entails.of_eq (Ring.pointsTo_blocks (ℓ := (c : Thread nD τ).loc cc0_scratch1) slot slot_disjoint slot_cover f)).trans
    (bigSep_mono fun t _ => show rSlot c t f ⊢ iprop(∃ f, rSlot c t f) by iintro H; iexists f; iexact H)

/-- After the signals a device has kept its own slot. -/
theorem own_slot_left (c : Dev nD) :
    (bigSep Finset.univ fun i : Dev nD => (if i = c then iprop(∃ f, rSlot c c f) else iprop(emp) : sProp 𝕄)) ⊢ iprop(∃ f, rSlot c c f) := by
  rw [bigSep_univ_at _ c, if_pos rfl]
  iintro ⟨H, -⟩
  iexact H

/-- The receive buffer's slots, all at one buffer's contents, are the buffer. -/
theorem rSlots_join (c : Dev nD) (f : (cc0_scratch1 : Ref sig .tc).ty.Contents (Elt F)) :
    (bigSep Finset.univ fun t : Fin 32 => (rSlot c t f : sProp 𝕄)) ⊢ rWhole c f :=
  Entails.of_eq (Ring.pointsTo_blocks (ℓ := (c : Thread nD τ).loc cc0_scratch1) slot slot_disjoint slot_cover f).symm

/-- The send buffer's slots, all at one buffer's contents, are the buffer. -/
theorem ySlots_join (c : Dev nD) (f : (cc0_scratch0 : Ref sig .tc).ty.Contents (Elt F)) :
    (bigSep Finset.univ fun t : Fin 32 => (ySlot c t f : sProp 𝕄)) ⊢ (((c : Thread nD τ).loc cc0_scratch0) ↦{fullShare} f) :=
  Entails.of_eq (Ring.pointsTo_blocks (ℓ := (c : Thread nD τ).loc cc0_scratch0) slot slot_disjoint slot_cover f).symm

/-! ## The contents -/

variable (m : (ℓ : Loc nD τ sig) → Buf (Elt F) ℓ) (ρ : Dev nD → PrngReg)

/-- The launch's state: the given memory, every counter at zero. -/
abbrev s₀ : MemSt nD τ sig (Elt F) := ⟨m, fun _ => 0, ρ⟩

/-- The grid has one point. -/
theorem cfg0_N : cfg0.N = 1 := N_0
/-- That point. -/
def t₀ : Fin cfg0.N := ⟨0, by rw [cfg0_N]; decide⟩
/-- Every grid point is that one. -/
theorem fin_N (t : Fin cfg0.N) : t = t₀ := by
  obtain ⟨t, ht⟩ := t; have := cfg0_N; exact Fin.ext (by simp only [t₀]; omega)

/-- Device `c`'s rows of `x`, as the pipeline stages them. -/
def xstg (c : Dev nD) : (cc0_stg0_0 : Ref sig .tc).ty.Contents (Elt F) :=
  (win0_0.blk (0 : Fin 1)).view.read (Elt F) ((s₀ m ρ).mem ((c : Thread nD τ).loc main_arg0))
/-- The weights, as the pipeline stages them on device `c`. -/
def wstg (c : Dev nD) : (cc0_stg1_0 : Ref sig .tc).ty.Contents (Elt F) :=
  (win0_1.blk (0 : Fin 1)).view.read (Elt F) ((s₀ m ρ).mem ((c : Thread nD τ).loc main_arg1))

/-- Device `c`'s rows of the product, after the activation. -/
def rows (c : Dev nD) : FVec F S32x1024 .bf16 := k0_pay1 (xstg m ρ c) (wstg m ρ c)

/-- Device `c`'s result. -/
def outAt (c : Dev nD) : (cc0_stg2_0 : Ref sig .tc).ty.Contents (Elt F) := k0_pay41 (recvBuf (rows m ρ) c)

/-! ## What a device starts from and ends with -/

/-- Device `c`'s share of the exchange, at cell names `K`: the records; its position at each of its cells; the tokens of the duties
    it pays: of every barrier, of its peers' receive cells, of its own send cells. -/
def ghost (K : Dev nD × Cell → ℕ) (c : Dev nD) : sProp 𝕄 :=
  iprop(records (rows m ρ) K
    ∗ (bigSep Finset.univ fun k : Cell => atPos ER (cellAt (c, k)) 0 ∅ 0)
    ∗ (bigSep Finset.univ fun d : Dev nD => dutyTok ER (barCell d) 0 c)
    ∗ (bigSep Finset.univ fun r : Fin 31 => dutyTok ER (recvCell (peer c r) r) 0 (peer c r))
    ∗ bigSep Finset.univ fun r : Fin 31 => dutyTok ER (sendCell c r) 0 c)

/-- That at some names, the credits of its barrier and receive waits, and the levels. -/
def start (c : Dev nD) : sProp 𝕄 :=
  iprop((∃ K, ghost m ρ K c) ∗ cred (tallyAt (barCell c) () 31) ∗ (bigSep Finset.univ fun r : Fin 31 => cred (tallyAt (recvCell c r) () N)) ∗ levAts L lv)

/-- Both exchange buffers, at any contents. -/
def buffers (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

/-- Before the body: the device's share of the exchange, and both buffers. -/
def Φ₀ (c : Dev nD) : sProp 𝕄 := iprop(start m ρ c ∗ buffers c)
/-- At the end: the buffers, and every cell at zero. -/
def Φ₁ (c : Dev nD) : sProp 𝕄 := iprop(buffers c ∗ bigSep Finset.univ fun k : Cell => semVal (cellAt (c, k)) 0)

/-- The pipeline's data: the arrays at launch, what the body leaves in each staging buffer, and what the device holds and owes before and after its one point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => owed₀ c
    | ⟨_ + 1, _⟩ => 0

/-- Owning a whole buffer at contents `X` is holding all its elements, at `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Cell → ℕ)

/-- A staging buffer, whole, at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The exchange, from a send buffer filled with the device's rows: the result staged, every cell closed. -/
theorem exchange_runs (c : Dev nD) (g : (cc0_stg2_0 : Ref sig .tc).ty.Contents (Elt F)) (y : Dev nD → FVec F S32x1024 .bf16) (Kt : PUnit → sProp 𝕄) :
    iprop((carry y K c (recvDue c 0) ∗ levAts L lv
        ∗ (bigSep Finset.univ fun k : Cell => atPos ER (cellAt (c, k)) 0 ∅ 0)
        ∗ (bigSep Finset.univ fun r : Fin 31 => dutyTok ER (recvCell (peer c r) r) 0 (peer c r))
        ∗ (bigSep Finset.univ fun r : Fin 31 => dutyTok ER (sendCell c r) 0 c)
        ∗ cred (tallyAt (barCell c) () 31) ∗ (bigSep Finset.univ fun r : Fin 31 => cred (tallyAt (recvCell c r) () N))
        ∗ (bigSep Finset.univ fun t : Fin 32 => ySlot c t (sendBuf (y c))) ∗ (∃ f, rSlot c c f) ∗ outWhole c g)
      ∗ (iprop(buffers c ∗ (bigSep Finset.univ fun k : Cell => semVal (cellAt (c, k)) 0) ∗ outWhole c (k0_pay41 (recvBuf y c)) ∗ ∃ W, owes (c : Thread nD τ) 0 W) -∗ Kt ⟨⟩))
      ⊢ runs c (exchange oM yM (Memref.isWhole_whole _) rM (Memref.isWhole_whole _) cc0_scratch2 cc0_scratch3 c) Kt := by
  rw [exchange_eq]
  simp only [semWaitWord, Prog.bind_op, Prog.bind_ret]
  rw [bigSep_cells, bigSep_peers c, bigSep_cells]
  iintro ⟨⟨Hc, #Hlev, ⟨HaB, HaS, HaV⟩, HtV, HtS, HcB, HcV, ⟨Hyc, Hy⟩, Hr, Ho⟩, Hk⟩
  unfold carry
  icases Hc with ⟨#Hrec, %W, HO⟩
  ihave Hi := (records_at y K (c, none)) $$ Hrec
  icases Hi with ⟨#HI, -⟩
  -- the barrier: every peer's slot for this device
  iapply (Rounds.wp_wait_rest_token 𝒱₀ ER (sched y) (c : Thread nD τ) none (κ := K (c, none))
      (wpE_semWait_eq 𝒱₀ (c : Thread nD τ) none Set.univ) (Set.mem_univ _) () (O := recvDue c 0) (W := W) (R := 0) (m := 0) (T := ∅)
      ((show 0 + _ = 31 from by decide).trans (expect_bar y c).symm)) $$ [HcB HO HaB]
  · isplitr; · iexact HI
    isplitl [HcB]; · iexact HcB
    isplitl [HO]; · iexact HO
    isplitr; · iapply (mayWait_bar c); iexact Hlev
    iexact HaB
  iintro ⟨HO, HaB, -, Hpay⟩
  ihave Hp := (Entails.of_eq (rest_bar y c)) $$ Hpay
  imod (Rounds.cell_close ER (sched y) (Set.mem_univ (K (c, none))) (fun h => h) (R := 0 + 1) (sched_duties_later y (barCell c))) $$ [HaB] with HzB
  · isplitr; · iexact HI
    iexact HaB
  -- the sends
  rw [wp_bind]
  iapply (wp_inOrder c 31 _ _ _ (fun i => carry y K c (recvDue c i)) (fun r => send_step y K c r) _)
  isplitl [Hy Hp HtS HtV]
  · rw [bigSep_sep', bigSep_sep', bigSep_sep']
    isplitl [Hy]; · iexact Hy
    isplitl [Hp]; · iexact Hp
    isplitl [HtS] <;> iassumption
  isplitl [HO]
  · unfold carry
    isplitr; · iexact Hrec
    iexists _; iexact HO
  iintro ⟨HcS, Hc⟩
  rw [recvDue_end]
  -- the device's own block
  rw [wp_bind]
  iapply (wp_wand _ _ _) $$ [Hyc Hr]
  · iapply (storeOwn_step y c); isplitl [Hyc] <;> iassumption
  iintro %_ ⟨Hyc, Hrc⟩
  -- the receive waits
  rw [wp_bind]
  iapply (wp_inOrder c 31 _ _ _ (fun _ => carry y K c 0) (fun r => awaitRecv_step y K c r) _)
  isplitl [HaV HcV]
  · rw [bigSep_sep']; isplitl [HaV] <;> iassumption
  isplitl [Hc]; · iexact Hc
  iintro ⟨HV, Hc⟩
  ihave HV := (Entails.of_eq (bigSep_sep' _ _ _)) $$ HV
  icases HV with ⟨HzV, Hrs⟩
  ihave Hr := (rSlots_join c (recvBuf y c)) $$ [Hrc Hrs]
  · rw [bigSep_sources c]; isplitl [Hrc] <;> iassumption
  -- the result
  rw [wp_bind]
  iapply (wp_wand _ _ _) $$ [Hr Ho]
  · iapply (emit_step c _ g); isplitl [Hr] <;> iassumption
  iintro %_ ⟨Hr, Ho⟩
  -- the send waits
  iapply (wp_inOrder c 31 _ _ _ (fun _ => carry y K c 0) (fun r => awaitSend_step y K c r) _)
  isplitl [HaS HcS]
  · rw [bigSep_sep']; isplitl [HaS] <;> iassumption
  isplitl [Hc]; · iexact Hc
  iintro ⟨HS, Hc⟩
  ihave HS := (Entails.of_eq (bigSep_sep' _ _ _)) $$ HS
  icases HS with ⟨HzS, Hys⟩
  ihave Hy := (ySlots_join c (sendBuf (y c))) $$ [Hyc Hys]
  · rw [bigSep_peers c]; isplitl [Hyc] <;> iassumption
  unfold carry rWhole buffers
  icases Hc with ⟨-, HO⟩
  iapply Hk
  isplitl [Hy Hr]
  · isplitl [Hy]
    · iexists _; iexact Hy
    iexists _; iexact Hr
  isplitl [HzB HzS HzV]
  · isplitl [HzB]; · iexact HzB
    isplitl [HzS] <;> iassumption
  isplitl [Ho] <;> iassumption

/-- What the body starts from, at cell names `K`. -/
def bodyPre (c : Dev nD) : sProp 𝕄 :=
  iprop((ghost m ρ K c ∗ cred (tallyAt (barCell c) () 31) ∗ (bigSep Finset.univ fun r : Fin 31 => cred (tallyAt (recvCell c r) () N)) ∗ levAts L lv ∗ buffers c)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- What the body leaves. -/
def bodyPost (c : Dev nD) : sProp 𝕄 :=
  iprop(Φ₁ c ∗ (dats m ρ 0 c).owesAt () t₀.succ ∗ stg c cc0_stg0_0 (xstg m ρ c) ∗ stg c cc0_stg1_0 (wstg m ρ c) ∗ stg c cc0_stg2_0 (outAt m ρ c))

/-- The body: the signals, both operands read, the rows formed and put in the send buffer, the exchange. -/
theorem body_runs (c : Dev nD) (Kt : PUnit → sProp 𝕄) :
    iprop(bodyPre m ρ K c ∗ (bodyPost m ρ c -∗ Kt ⟨⟩))
      ⊢ runs c (cc0_body xM (Memref.isWhole_whole _) wM (Memref.isWhole_whole _) oM (Memref.isWhole_whole _)
            yM (Memref.isWhole_whole _) rM (Memref.isWhole_whole _) cc0_scratch2 cc0_scratch3) Kt := by
  rw [body_eq]
  unfold steps produce
  simp only [Prog.lift, Prog.bind_op, Prog.bind_ret, wp_deviceId]
  unfold bodyPre ghost buffers
  iintro ⟨⟨⟨⟨#Hrec, Hat, HtB, HtV, HtS⟩, HcB, HcV, #Hlev, ⟨%fy, Hy⟩, ⟨%fr, Hr⟩⟩, Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch0_0 t₀)]; rfl
  have hw : g1 = wstg m ρ c := by rw [hg1]; unfold Dat.before; rw [if_pos (fetch0_1 t₀)]; rfl
  subst hx hw
  unfold Dat.owesAt Pipeline.owesWithin
  icases Ho with ⟨%W, -, HO⟩
  rw [show (dats m ρ 0 c).owed t₀.castSucc = barDue c 0 + recvDue c 0 from rfl]
  ihave Hr := (rSlots_intro c fr) $$ Hr
  ihave Hy := (ySlots_intro c fy) $$ Hy
  -- the signals
  rw [wp_bind]
  iapply (wp_inOrder c 32 _ _ _ (fun i => carry (rows m ρ) K c (barDue c i + recvDue c 0)) (fun i => signal_step (rows m ρ) K c i) _)
  isplitl [Hr HtB]
  · rw [bigSep_sep']; isplitl [Hr] <;> iassumption
  isplitl [HO]
  · unfold carry
    isplitr; · iexact Hrec
    iexists W; iexact HO
  iintro ⟨HQ, Hc⟩
  rw [show barDue c 32 + recvDue c 0 = recvDue c 0 by rw [barDue_end, zero_add]]
  ihave Hrc := (own_slot_left c) $$ HQ
  -- the operands
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w]
  -- the rows, column block by column block
  rw [wp_bind]
  iapply (wp_inOrder c 32 _ _ _ (fun _ => iprop(emp)) (fun t => fill_step (rows m ρ c) c t (fun _ => iprop(emp)) rfl) _)
  isplitl [Hy]; · iexact Hy
  isplitr; · iempintro
  iintro ⟨Hy, -⟩
  -- the exchange
  iapply (exchange_runs K c g2 (rows m ρ) Kt)
  isplitr [Hk Hx Hw]
  · isplitl [Hc]; · iexact Hc
    isplitr; · iexact Hlev
    isplitl [Hat]; · iexact Hat
    isplitl [HtV]; · iexact HtV
    isplitl [HtS]; · iexact HtS
    isplitl [HcB]; · iexact HcB
    isplitl [HcV]; · iexact HcV
    isplitl [Hy]; · iexact Hy
    isplitl [Hrc]; · iexact Hrc
    unfold outWhole; iexact Hout
  iintro ⟨Hbuf, Hz, Hout, ⟨%W', HO⟩⟩
  iapply Hk
  unfold bodyPost Φ₁ Dat.owesAt Pipeline.owesWithin
  rw [show (dats m ρ 0 c).owed t₀.succ = 0 from rfl]
  isplitl [Hbuf Hz]
  · isplitl [Hbuf] <;> iassumption
  isplitl [HO]
  · iexists W'
    isplitr; · (ipureintro; exact fun _ _ => Or.inl trivial)
    iexact HO
  isplitl [Hx]
  · iexists _; isplitr; · (ipureintro; rfl)
    iexact Hx
  isplitl [Hw]
  · iexists _; isplitr; · (ipureintro; rfl)
    iexact Hw
  iexists _; isplitr; · (ipureintro; rfl)
  unfold outWhole; iexact Hout

set_option maxRecDepth 4000 in
/-- What the body starts from: the device's share, what it owes, and the three staging buffers. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 4000 in
/-- The pipeline's obligation for the body on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ runs c (cc0_body xM (Memref.isWhole_whole _) wM (Memref.isWhole_whole _) oM (Memref.isWhole_whole _)
    yM (Memref.isWhole_whole _) rM (Memref.isWhole_whole _) cc0_scratch2 cc0_scratch3) (fun _ => bodyPost m ρ c)
  unfold bodyPre' Φ₀ start
  iintro ⟨⟨⟨⟨%K, Hg⟩, HcB, HcV, Hlev⟩, Hbuf⟩, Ho, Hx, Hw, Hout⟩
  iapply (body_runs m ρ K c fun _ => bodyPost m ρ c)
  unfold bodyPre
  isplitl
  · isplitl [Hg HcB HcV Hlev Hbuf]
    · isplitl [Hg]; · iexact Hg
      isplitl [HcB]; · iexact HcB
      isplitl [HcV]; · iexact HcV
      isplitl [Hlev] <;> iassumption
    isplitl [Ho]; · iexact Ho
    isplitl [Hx]; · iexact Hx
    isplitl [Hw] <;> iassumption
  · iintro H; iexact H

end Body

end Cert.KernelIdeal.Exchange

end
-- ==== Proof.KernelIdeal.Launch.lean ====
/- The launch: the exchange's cells and tokens minted and dealt to the devices, the credits, and the run of @main. -/
module

public import proofs.«01_k».proof.Proof.KernelIdeal.Body
public import Idealize.ShloMosaic.Lib.Pipeline.CollectiveSegs

@[expose] public section

noncomputable section

namespace Cert.KernelIdeal.Exchange

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is minted -/

/-- The exchange's own counters are counters of the kernel and not the pipeline's. -/
theorem ownSemFacts : Pipeline.OwnSemFacts cfg0.spec ownSem := by decide +kernel

/-- The pipeline holds its arrays at the full share. -/
theorem share_eq (c : Dev nD) (w : Fin cfg0.W) : (dats m ρ 0 c).share w = fullShare := by unfold Dat.share; split <;> rfl

/-- Every cell of the exchange, on every device. -/
def allCells : Finset (GSem nD τ sig) := Finset.univ.map ⟨cellAt, cellAt_injective⟩

/-- A duty token by its cell's device: a barrier's for each paying device, an own cell's. -/
abbrev tokAt (ck : Dev nD × (Dev nD ⊕ (Bool × Fin 31))) : GSem nD τ sig × ℕ × Dev nD :=
  match ck.2 with
  | .inl d => (barCell ck.1, 0, d)
  | .inr k => (cellAt (ck.1, some k), 0, ck.1)

/-- No duty token is named twice. -/
theorem tokAt_injective : Function.Injective tokAt := by
  rintro ⟨c, d | k⟩ ⟨c', d' | k'⟩ h <;> have hc := cellAt_injective (congrArg Prod.fst h)
  · cases hc; cases (congrArg (fun x : GSem nD τ sig × ℕ × Dev nD => x.2.2) h); rfl
  · cases hc
  · cases hc
  · cases hc; rfl

/-- Every duty token of the exchange. -/
def allToks : Finset (GSem nD τ sig × ℕ × Dev nD) := Finset.univ.map ⟨tokAt, tokAt_injective⟩

/-- The initial ghost state: the pipeline's, and the exchange's. -/
def u₀ : UU :=
  (initOf (Pipeline.cells cfgs cellOf_inj) (Pipeline.launchToks cfgs cellOf_inj), initOf allCells allToks)

/-- The duty tokens of device `c`'s cells. -/
def toks (c : Dev nD) : sProp 𝕄 :=
  iprop((bigSep Finset.univ fun d : Dev nD => dutyTok ER (barCell c) 0 d) ∗ bigSep Finset.univ fun k : Bool × Fin 31 => dutyTok ER (cellAt (c, some k)) 0 c)

/-- What is dealt to device `c`: the round state of its cells, its positions, the marks, its cells' tokens. -/
def G (c : Dev nD) : sProp 𝕄 :=
  iprop((bigSep Finset.univ fun k : Cell => roundState ER (sched (rows m ρ)) (cellAt (c, k)) 0)
    ∗ (bigSep Finset.univ fun k : Cell => iprop(atPos ER (cellAt (c, k)) 0 ∅ 0 ∗ reached ER (cellAt (c, k)) 0)) ∗ toks c)

/-- What the devices together make of it. -/
def G' (c : Dev nD) : sProp 𝕄 := iprop(∃ K, ghost m ρ K c)

/-- The exchange's initial ghost state is dealt to the devices. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cell => Φ (cellAt (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (sched (rows m ρ)) allCells allToks) $$ HX with ⟨Hst, Hr, Hat, Htok⟩
  imodintro
  ihave Hst' := (Entails.of_eq (hX fun g => roundState ER (sched (rows m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## What is made of it -/

/-- The one counter that outlives the kernel is the barrier's. -/
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

/-- A device's counters: the barrier's and its own. -/
theorem sems0_eq (c : Dev nD) :
    (bigSep Finset.univ fun k : Cell => semVal (cellAt (c, k)) 0 : sProp 𝕄)
      = iprop(unscopedSems0 c ∗ Pipeline.ownSems0 (Ix := Unit) (Name := ℕ) (U := UU) (Lvl := ℕ) (Val := Elt F) (τ := τ) ownSem c) := by
  rw [unscopedSems0_eq, bigSep_own]; rfl

/-- A device's counters, at zero, become the invariants of its cells. -/
theorem core_alloc (c : Dev nD) :
    iprop(Pipeline.ownSems0 (Ix := Unit) (Name := ℕ) (U := UU) (Lvl := ℕ) (Val := Elt F) (τ := τ) ownSem c ∗ unscopedSems0 c ∗ G m ρ c)
      ⊢ |={Set.univ}=> iprop((bigSep Finset.univ fun k : Cell => iprop(∃ κ : ℕ, cellInv ER (sched (rows m ρ)) κ (cellAt (c, k))))
          ∗ (bigSep Finset.univ fun k : Cell => iprop(atPos ER (cellAt (c, k)) 0 ∅ 0 ∗ reached ER (cellAt (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Cell => semVal (cellAt (c, k)) 0) ∗ bigSep Finset.univ fun k : Cell => roundState ER (sched (rows m ρ)) (cellAt (c, k)) 0)
      ⊢ (|={Set.univ}=> bigSep Finset.univ fun k : Cell => iprop(∃ κ : ℕ, cellInv ER (sched (rows m ρ)) κ (cellAt (c, k))) : sProp 𝕄) from by
        rw [← bigSep_sep']
        exact (bigSep_mono fun k _ => (Rounds.body_intro ER (sched (rows m ρ)) (cellAt (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens device `c` pays with. -/
def payToks (c : Dev nD) : sProp 𝕄 :=
  iprop((bigSep Finset.univ fun d : Dev nD => dutyTok ER (barCell d) 0 c)
    ∗ (bigSep Finset.univ fun r : Fin 31 => dutyTok ER (recvCell (peer c r) r) 0 (peer c r))
    ∗ bigSep Finset.univ fun r : Fin 31 => dutyTok ER (sendCell c r) 0 c)

/-- Every token goes to the device that pays with it: a barrier's to the device it is named by, a receive cell's to its source. -/
theorem toks_dealt : (bigSep Finset.univ fun c : Dev nD => (toks c : sProp 𝕄)) ⊢ bigSep Finset.univ fun c : Dev nD => payToks c := by
  unfold toks payToks
  rw [bigSep_sep', bigSep_sep', bigSep_sep', bigSep_univ_comm (fun c d : Dev nD => (dutyTok ER (barCell c) 0 d : sProp 𝕄))]
  refine sep_mono_right ?_
  have h (c : Dev nD) : (bigSep Finset.univ fun k : Bool × Fin 31 => (dutyTok ER (cellAt (c, some k)) 0 c : sProp 𝕄))
      = iprop((bigSep Finset.univ fun r : Fin 31 => dutyTok ER (sendCell c r) 0 c) ∗ bigSep Finset.univ fun r : Fin 31 => dutyTok ER (recvCell c r) 0 c) := by
    rw [bigSep_univ_prod, show (Finset.univ : Finset Bool) = {false, true} by decide, bigSep_insert (by decide), bigSep_singleton]
    rfl
  rw [bigSep_congr fun c _ => h c, bigSep_sep', bigSep_univ_comm (fun (c : Dev nD) (r : Fin 31) => (dutyTok ER (recvCell c r) 0 c : sProp 𝕄)),
    bigSep_congr fun r _ => bigSep_univ_equiv (shift r) (fun c : Dev nD => (dutyTok ER (recvCell c r) 0 c : sProp 𝕄)),
    bigSep_univ_comm (fun (r : Fin 31) (c : Dev nD) => (dutyTok ER (recvCell (shift r c) r) 0 (shift r c) : sProp 𝕄))]
  iintro ⟨H1, H2⟩
  isplitl [H2]; · iexact H2
  iexact H1

/-- What each device makes of a shared fact and its own share, all devices make together. -/
theorem with_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- The devices' invariants are gathered and shared, and the tokens go to the devices that pay with them. -/
theorem regroup :
    (bigSep Finset.univ fun c : Dev nD => iprop((bigSep Finset.univ fun k : Cell => iprop(∃ κ : ℕ, cellInv ER (sched (rows m ρ)) κ (cellAt (c, k))))
          ∗ (bigSep Finset.univ fun k : Cell => iprop(atPos ER (cellAt (c, k)) 0 ∅ 0 ∗ reached ER (cellAt (c, k)) 0)) ∗ toks c) : sProp 𝕄)
      ⊢ bigSep Finset.univ (G' m ρ) := by
  rw [bigSep_sep', bigSep_sep', ← bigSep_univ_prod (fun ck : Dev nD × Cell => iprop(∃ κ : ℕ, cellInv ER (sched (rows m ρ)) κ (cellAt ck))),
    bigSep_congr (s := Finset.univ) (fun (c : Dev nD) _ => bigSep_sep' Finset.univ (fun k : Cell => (atPos ER (cellAt (c, k)) 0 ∅ 0 : sProp 𝕄)) (fun k => reached ER (cellAt (c, k)) 0)),
    bigSep_sep', ← bigSep_univ_prod (fun ck : Dev nD × Cell => (reached ER (cellAt ck) 0 : sProp 𝕄))]
  iintro ⟨HI, ⟨Hat, HR⟩, Htok⟩
  ihave HK := (BI.bigSep_exists_pi Finset.univ (fun (ck : Dev nD × Cell) (κ : ℕ) => (cellInv ER (sched (rows m ρ)) κ (cellAt ck) : sProp 𝕄))) $$ HI
  icases HK with ⟨%K, HI⟩
  ihave Htk := (toks_dealt (F := F)) $$ Htok
  iapply (with_records (R := records (rows m ρ) K)
    (Φ := fun c => iprop((bigSep Finset.univ fun k : Cell => atPos ER (cellAt (c, k)) 0 ∅ 0) ∗ payToks c)) fun c => by
      unfold G' ghost payToks
      iintro ⟨Hrec, Hat, Htok⟩
      iexists K
      isplitl [Hrec]; · iexact Hrec
      isplitl [Hat] <;> iassumption)
  isplitl [HI HR]
  · unfold records; rw [bigSep_sep']; isplitl [HI] <;> iassumption
  rw [bigSep_sep']
  isplitl [Hat] <;> iassumption

/-- From the counters at zero and the dealt ghost state, every device gets its share of the exchange. -/
theorem glob : (bigSep Finset.univ fun c => iprop(Pipeline.ownSems0 (Ix := Unit) (Name := ℕ) (U := UU) (Lvl := ℕ) (Val := Elt F) (τ := τ) ownSem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- Two cells have the same counter only if they are the same cell. -/
theorem cells_eq {ck ck' : Dev nD × Cell} : cellAt ck = cellAt ck' ↔ ck = ck' := cellAt_injective.eq_iff

/-- What device `d` owes device `c`'s barrier: one unit, unless it is `c`. -/
theorem owed_bar (d c : Dev nD) : owed₀ d (barCell c) () = if c ≠ d then 1 else 0 := by
  unfold owed₀
  rw [Pi.add_apply, Finsupp.add_apply, show recvDue d 0 (barCell c) () = 0 from Nat.eq_zero_of_not_pos fun h => by
    (obtain ⟨e, r, he⟩ := recvDue_pos h
     cases cellAt_injective he), Nat.add_zero]
  unfold barDue
  rw [sum_tally_apply, Finset.sum_congr rfl fun e _ => (tallyAt_apply ..).trans (if_congr (show _ ↔ e = c by
    rw [and_iff_left rfl, cells_eq, Prod.mk.injEq, and_iff_left rfl]; exact eq_comm) rfl rfl), Finset.sum_ite_eq']
  exact if_congr (by simp) rfl rfl

/-- What device `d` owes device `c`'s receive cell of step `r`: the block's credit, if `d` is the step's source. -/
theorem owed_recv (d c : Dev nD) (r : Fin 31) : owed₀ d (recvCell c r) () = if d = source c r then N else 0 := by
  unfold owed₀
  rw [Pi.add_apply, Finsupp.add_apply, show barDue d 0 (recvCell c r) () = 0 from Nat.eq_zero_of_not_pos fun h => by
    (obtain ⟨e, he⟩ := barDue_pos h
     cases cellAt_injective he), Nat.zero_add]
  unfold recvDue
  rw [sum_tally_apply, Finset.sum_congr rfl fun e _ => (tallyAt_apply ..).trans ((if_congr (show _ ↔ e = r ∧ d = source c r by
    rw [and_iff_left rfl, cells_eq]
    constructor
    · intro h
      obtain ⟨h1, h2⟩ := Prod.mk.inj h
      cases h2
      exact ⟨rfl, by rw [h1, source_peer]⟩
    · rintro ⟨rfl, rfl⟩; rw [peer_source]) rfl rfl).trans (ite_and ..)), Finset.sum_ite_eq', if_pos (by simp)]

/-- 31 devices owe a unit to each barrier. -/
theorem sum_bar (c : Dev nD) : (∑ d : Dev nD, if c ≠ d then 1 else 0) = 31 := by
  revert c; decide +kernel

/-- What all devices owe device `c`'s barrier at the start is 31 units. -/
theorem launch_bar (c : Dev nD) :
    tallyOn (barCell c) (launchCredit (Pipeline.owing owed₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, sum_bar]

/-- What all devices owe a receive cell at the start is one block's credit. -/
theorem launch_recv (c : Dev nD) (r : Fin 31) :
    tallyOn (recvCell c r) (launchCredit (Pipeline.owing owed₀) 0 (recvCell c r)) = (tallyAt (recvCell c r) () N : CellTallies nD τ sig Unit) := by
  unfold tallyAt; refine congrArg _ (Finsupp.ext fun u => ?_); cases u
  rw [Pipeline.launchCredit_owing, Finsupp.single_eq_same, Finset.sum_congr rfl fun d _ => owed_recv d c r, Finset.sum_ite_eq', if_pos (Finset.mem_univ _)]

/-- The launch's credits hold those of a device's barrier wait and of its receive waits. -/
theorem creds (c : Dev nD) :
    (Pipeline.launchCred owed₀ c : sProp 𝕄) ⊢ iprop(cred (tallyAt (barCell c) () 31) ∗ bigSep Finset.univ fun r : Fin 31 => cred (tallyAt (recvCell c r) () N)) := by
  have hinj : Function.Injective fun r : Fin 31 => ownSem (true, r) := fun r r' h => by cases ownSem_injective h; rfl
  unfold Pipeline.launchCred
  rw [bigSep_univ_at _ (SemLoc.reg barS), launch_bar]
  refine sep_mono_right ((bigSep_subset (t := Finset.univ.map ⟨fun r : Fin 31 => ownSem (true, r), hinj⟩) fun sm hsm => ?_).trans ?_)
  · obtain ⟨r, -, rfl⟩ := Finset.mem_map.mp hsm
    exact Finset.mem_erase.mpr ⟨ownSem_ne_bar (true, r), Finset.mem_univ _⟩
  · rw [bigSep_map]
    exact Entails.of_eq (bigSep_congr fun r _ => congrArg cred (launch_recv c r))

/-! ## The run -/

/-- What the launch gives a device is what it starts from. -/
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN] <;> iassumption
  · iempintro

/-- With its two buffers, that is what the body starts from. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ buffers
  iintro ⟨Hs, -, Hb⟩
  isplitl [Hs] <;> iassumption

/-- What the body ends with gives back every counter, at zero, and the buffers. -/
theorem phi1_exit (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = Φ₁ c from rfl, scopedRest0_eq]
  unfold Φ₁ buffers
  rw [sems0_eq]
  iintro ⟨Hb, HB, HO⟩
  isplitl [HB]; · iexact HB
  isplitl [HO] <;> iassumption

/-- The pipeline's own waits are allowed, whatever the device still owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What a window's array holds at the end. -/
def finalA (c : Dev nD) (w : Fin cfg0.W) : Buf (Elt F) ((cfg0.win w).arr.view.loc (c : Thread nD τ)) := (dats m ρ 0 c).arrAt w cfg0.N

/-- Every window's array, on every device, holds what the pipeline's data says. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, every fair run of @main on the 32 devices ends, with each window's array at what the
    pipeline's data says and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Exchange

end
-- ==== Proof.KernelIdeal.Final.lean ====
/- The arrays after the run: the arguments as they were, the result the device's column block of every device's rows. -/
module

public import proofs.«01_k».proof.Proof.KernelIdeal.Launch

@[expose] public section

noncomputable section

namespace Cert.KernelIdeal.Exchange

open Cert.KernelIdeal.Gen
open Idealize.ShloMosaic Idealize.ShloMosaic.TcCoe
open Idealize.SL.Sem
open Idealize.ShloMosaic.Pipeline (Dat Cfg Window)

variable {F : FTy → Type} [FloatOps F]

variable (m : (ℓ : Loc nD τ sig) → Buf (Elt F) ℓ) (ρ : Dev nD → PrngReg)

/-- The pipeline writes nothing back to the array of `x`. -/
theorem final_x (c : Dev nD) : finalA m ρ c (0 : Fin 3) = m ((c : Thread nD τ).loc main_arg0) :=
  (dats m ρ 0 c).arrAt_in (0 : Fin 3) rfl _

/-- The pipeline writes nothing back to the array of weights. -/
theorem final_w (c : Dev nD) : finalA m ρ c (1 : Fin 3) = m ((c : Thread nD τ).loc main_arg1) :=
  (dats m ρ 0 c).arrAt_in (1 : Fin 3) rfl _

/-- Read through its one block, the result array holds what the body left staged. -/
theorem final_o_blk (c : Dev nD) : (win0_2.blk (0 : Fin 1)).view.read (Elt F) (finalA m ρ c (2 : Fin 3)) = outAt m ρ c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

/-- The rows of the product that device `s` forms from its two argument arrays. -/
def rowsOf (s : Dev nD) : FVec F S32x1024 .bf16 :=
  k0_pay1 (m ((s : Thread nD τ).loc main_arg0)) (m ((s : Thread nD τ).loc main_arg1))

/-- Device `c`'s result: its column block of every device's rows, the devices in order, widened. -/
def result (c : Dev nD) : (main_v1 : Ref sig .tc).ty.Contents (Elt F) := k0_pay41 (recvBuf (rowsOf m) c)

/-- The one block of `x` is the array. -/
theorem xstg_eq (c : Dev nD) : xstg m ρ c = m ((c : Thread nD τ).loc main_arg0) :=
  Memref.read_access_unit_zero (Elt F) main_arg0 (funext fun a => by fin_cases a <;> decide) (fun a => by fin_cases a <;> decide) _

/-- The one block of the weights is the array. -/
theorem wstg_eq (c : Dev nD) : wstg m ρ c = m ((c : Thread nD τ).loc main_arg1) :=
  Memref.read_access_unit_zero (Elt F) main_arg1 (funext fun a => by fin_cases a <;> decide) (fun a => by fin_cases a <;> decide) _

/-- The rows formed from the staged blocks are those formed from the arrays. -/
theorem rows_eq : rows m ρ = rowsOf m := funext fun s => by unfold rows rowsOf; rw [xstg_eq, wstg_eq]

/-- The one block of the result is the array, and it holds `result`. -/
theorem final_o (c : Dev nD) : finalA m ρ c (2 : Fin 3) = result m c := by
  have hz : (fun a => (win0_2.index (0 : Fin 1)) a * main_v1.ty.shape.size a) = fun _ => 0 :=
    funext fun a => by fin_cases a <;> decide
  have h := final_o_blk m ρ c
  have hr := Memref.read_access_unit_zero (Elt F) main_v1 hz (fun a => by fin_cases a <;> decide) (finalA m ρ c (2 : Fin 3))
  unfold outAt at h
  rw [rows_eq] at h
  exact hr.symm.trans h

/-- The run of @main, on buffers: the arguments end unchanged, each result array is `result`, every counter reads zero. -/
theorem run_result : θ_run defs (onTc (τ := τ) (main (F := F))) ⟨m, fun _ => 0, ρ⟩ (fun r =>
    (∀ c : Dev nD, r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono
    (fun _ h => ⟨fun c => ⟨(h.1 c (2 : Fin 3)).trans (final_o m ρ c), (h.1 c (0 : Fin 3)).trans (final_x m ρ c),
      (h.1 c (1 : Fin 3)).trans (final_w m ρ c)⟩, h.2⟩)
    (run_main m ρ)

end Cert.KernelIdeal.Exchange

end
-- ==== Proof.Algebraic.Value.lean ====
/- The value at the extended reals: every device's result is its column block of the activated product. -/
module

public import proofs.«01_k».proof.Proof.KernelIdeal.Final
public import proofs.«01_k».proof.Proof.Gen.ReferenceIdeal.Run
public import Idealize.ShloMosaic.Lib.KernelVsHost
public import Idealize.ShloMosaic.Lib.StackMember
public import Idealize.ShloMosaic.Lib.MatmulPlain
public import Idealize.ShloMosaic.Lib.ValueIdx
public import Idealize.ShloMosaic.Lib.Layout

@[expose] public section

noncomputable section

open scoped BigOperators

namespace Cert.KernelIdeal.Exchange

open Cert.KernelIdeal.Gen
open Idealize.ShloMosaic Idealize.ShloMosaic.TcCoe Idealize.ShloMosaic.ValueIdx

section Layout
variable {F : FTy → Type} [FloatOps F]

/-- Column block `t` of rows `v`, at row `r` and column `j` of the block, is `v` at row `r` and column `32 t + j`. -/
theorem colBlock_apply (v : FVec F S32x1024 .bf16) (t r j : Fin 32) :
    colBlock v t (ix3 0 r j) = v (ix2 r ⟨t.val * 32 + j.val, by omega⟩) := by
  unfold colBlock
  rw [shapeCast_apply _ _ (ix3 0 r j) (ix2 r j) (by
    rw [Shape.rowMajor_val_two, Shape.rowMajor_val_three]; simp)]
  exact extractStridedSlice_apply _ v _ (ix2 r j) (ix2 r ⟨t.val * 32 + j.val, by omega⟩) fun a => by
    match a with
    | ⟨0, _⟩ => show r.val = 0 + r.val; omega
    | ⟨1, _⟩ => show t.val * 32 + j.val = 32 * t.val + j.val; omega

variable (m : (ℓ : Loc nD τ sig) → Buf (Elt F) ℓ)

/-- Row `32 s + r` of device `c`'s result is row `r` of device `s`'s rows, at `c`'s columns, widened. -/
theorem result_apply (c s r j : Fin 32) :
    result m c (ix2 ⟨s.val * 32 + r.val, by omega⟩ j)
      = FloatOps.extf .f32 bitsLt_bf16_f32 (rowsOf m s (ix2 r ⟨c.val * 32 + j.val, by omega⟩)) := by
  unfold result k0_pay41
  show FloatOps.extf .f32 _ (shapeCast S1024x32 (recvBuf (rowsOf m) c) _ (ix2 ⟨s.val * 32 + r.val, by omega⟩ j)) = _
  rw [shapeCast_apply _ _ (ix2 ⟨s.val * 32 + r.val, by omega⟩ j) (ix3 s r j) (by
    rw [Shape.rowMajor_val_two, Shape.rowMajor_val_three]; simp)]
  exact congrArg _ (colBlock_apply (rowsOf m s) c r j)

end Layout

/-- The activation of one entry of the product, as the reference spells it. -/
def act (y : EReal) : EReal :=
  (Scalar.ofBits (F := Ideal) .f32 0x3F000000#32 * y) * (Scalar.ofBits (F := Ideal) .f32 0x3F800000#32
    + Ideal.tanh (Scalar.ofBits (F := Ideal) .f32 0x3F4C422A#32 * (y + Scalar.ofBits (F := Ideal) .f32 0x3D372713#32 * ((y * y) * y))))

/-- The kernel's spelling of the activation, which multiplies the cube's coefficient in first, is the same. -/
theorem act_of_cube (y : EReal) :
    (Scalar.ofBits (F := Ideal) .f32 0x3F000000#32 * y) * (Scalar.ofBits (F := Ideal) .f32 0x3F800000#32
      + Ideal.tanh (Scalar.ofBits (F := Ideal) .f32 0x3F4C422A#32 * (y + ((Scalar.ofBits (F := Ideal) .f32 0x3D372713#32 * y) * y) * y)))
      = act y := by
  unfold act
  generalize (Scalar.ofBits (F := Ideal) .f32 0x3D372713#32 : EReal) = k
  rw [mul_assoc k y y, mul_assoc k (y * y) y]

/-- A device's rows at an entry: the activation of the product of its row of `x` with the weights' column. -/
theorem pay1_apply (x : FVec Ideal S32x1024 .bf16) (w : FVec Ideal S1024x1024 .bf16) (r : Fin 32) (k : Fin 1024) :
    k0_pay1 (F := Ideal) x w (ix2 r k) = act (∑ j : Fin 1024, x (ix2 r j) * w (ix2 j k)) := by
  have hd : dot_S32x1024_S1024x1024_S32x1024_1_0_0_1_n_n = DotDims.plain 32 1024 1024 := rfl
  have hp := StackMember.dotGeneral_plain_apply none x w r k
  unfold k0_pay1
  rw [shapeCast_self, shapeCast_self, matmul_zero_eq_dotGeneral, hd]
  generalize hy : Host.dotGeneral (DotDims.plain 32 1024 1024) none x w = y at hp ⊢
  rw [← hp]
  exact act_of_cube (y (ix2 r k))

end Cert.KernelIdeal.Exchange

namespace Cert.ReferenceIdeal.Value

open Cert.ReferenceIdeal Cert.ReferenceIdeal.Gen Idealize.ShloMosaic Idealize.ShloMosaic.TcCoe Idealize.SL.Sem Idealize.ShloMosaic.StableHlo
open Idealize.ShloMosaic.ValueIdx

/-- The reference's result as a function of the whole arrays. -/
def out (x w : FVec Ideal S1024x1024 .bf16) : FVec Ideal S1024x1024 .f32 :=
  fun i => Cert.KernelIdeal.Exchange.act (∑ j : Fin 1024, x (ix2 (i 0) j) * w (ix2 j (i 1)))

/-- The reference's run: its result is `out` of its arguments, which end unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (run (F := Ideal) m ρ)
  have hd : dot_S1024x1024_S1024x1024_S1024x1024_1_0_0_1_n_n = DotDims.plain 1024 1024 1024 := rfl
  rw [hd]
  generalize (m ((c.tc : Thread nD τ).loc main_arg0)) = x
  generalize (m ((c.tc : Thread nD τ).loc main_arg1)) = w
  change FVec Ideal S1024x1024 .bf16 at x w
  funext i
  obtain ⟨a, b, rfl⟩ : ∃ a b, i = ix2 a b := ⟨i 0, i 1, eq_ix2 i⟩
  have hp := StackMember.dotGeneral_plain_apply (φ₁ := .bf16) (φ₂ := .bf16) none x w a b
  show _ = Cert.KernelIdeal.Exchange.act (∑ j : Fin 1024, x (ix2 a j) * w (ix2 j b))
  rw [← hp]
  rfl

end Cert.ReferenceIdeal.Value

namespace Cert.KernelIdeal.Exchange

open Idealize.ShloMosaic Idealize.ShloMosaic.TcCoe Idealize.ShloMosaic.ValueIdx

/-- When each device holds its row block of `X` and all of `W`, each device's result is its column block of the
    reference's result. -/
theorem result_eq_block (m : (ℓ : Loc nD τ sig) → Buf (Elt Ideal) ℓ) (X W : FVec Ideal ⟨2, ![1024, 1024]⟩ .bf16)
    (hX : ∀ c : Dev nD, m ((c.tc : Thread nD τ).loc main_arg0) = Layout.block ⟨2, ![32, 1024]⟩ ⟨2, ![1024, 1024]⟩ 0 32 c X)
    (hW : ∀ c : Dev nD, m ((c.tc : Thread nD τ).loc main_arg1) = W) (c : Dev nD) :
    result m c = Layout.block ⟨2, ![1024, 32]⟩ ⟨2, ![1024, 1024]⟩ 1 32 c (Cert.ReferenceIdeal.Value.out X W) := by
  funext i
  obtain ⟨s, r, j, rfl⟩ : ∃ s r j : Fin 32, i = ix2 ⟨s.val * 32 + r.val, by omega⟩ j := by
    have h0 : (i 0).val < 1024 := idx2_lt0 i
    refine ⟨⟨(i 0).val / 32, by omega⟩, ⟨(i 0).val % 32, by omega⟩, i 1, (eq_ix2 i).trans ?_⟩
    refine congrArg (fun a => ix2 a (i 1)) (Fin.ext ?_)
    show (i 0).val = (i 0).val / 32 * 32 + (i 0).val % 32
    omega
  refine (result_apply m c s r j).trans ?_
  show rowsOf m s (ix2 r ⟨c.val * 32 + j.val, by have : c.val < 32 := c.isLt; omega⟩) = _
  unfold rowsOf
  refine (pay1_apply _ _ r _).trans ?_
  rw [Layout.block_apply]
  show _ = act (∑ k : Fin 1024, X (ix2 _ k) * W (ix2 k _))
  refine congrArg act (Finset.sum_congr rfl fun k _ => congr (congrArg HMul.hMul ?_) ?_)
  · refine (congrFun (hX s) (ix2 r k)).trans ?_
    rw [Layout.block_apply]
    refine congrArg X (funext fun a => Fin.ext ?_)
    match a with
    | ⟨0, _⟩ => rfl
    | ⟨1, _⟩ => rfl
  · exact congrFun (hW s) _

end Cert.KernelIdeal.Exchange

end
-- ==== Proof.lean ====
/- The certificate's claims, from the kernel's run at both float instances, the reference's run and the value. -/
module

public import proofs.«01_k».proof.Defs
public import proofs.«01_k».proof.Proof.Kernel.Final
public import proofs.«01_k».proof.Proof.Algebraic.Value
public import Idealize.ShloMosaic.Lib.Quiescent

@[expose] public section

noncomputable section

namespace Cert.Proof

open Idealize.ShloMosaic Idealize.SL.Sem

/-- The kernel runs, on bit patterns: the arguments end unchanged and every counter reads zero. -/
theorem frame_kernel : Cert.quiescent_Kernel (hKernel := Cert.Kernel.Gen.facts) := by
  intro m g _
  exact (θ_run Cert.Kernel.defs _ _).mono (fun _ h => ⟨fun c => (h.1 c).2, h.2⟩)
    (Cert.Kernel.Exchange.run_result (F := Bits) m g)

/-- The same of the kernel over the extended reals. -/
theorem frame_ideal : Cert.quiescent_KernelIdeal (hKernelIdeal := Cert.KernelIdeal.Gen.facts) := by
  intro m g _
  exact (θ_run Cert.KernelIdeal.defs _ _).mono (fun _ h => ⟨fun c => (h.1 c).2, h.2⟩)
    (Cert.KernelIdeal.Exchange.run_result (F := Ideal) m g)

/-- The reference runs; it has no counter. -/
theorem frame_reference : Cert.quiescent_ReferenceIdeal (hReferenceIdeal := Cert.ReferenceIdeal.Gen.facts) := by
  intro m g _
  exact (θ_run Cert.ReferenceIdeal.defs _ _).mono
    (fun r h => ⟨fun c => (h c).2, sem_eq_zero_of_no_sems (by decide) r.2⟩)
    (Cert.ReferenceIdeal.Value.run_out m g)

/-- From matching arguments, every device's result is its column block of the reference's result. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨_, (θ_run Cert.KernelIdeal.defs _ _).mono (fun r h c => ⟨((h.1 c).1).trans ?_, (h.1 c).2⟩)
      (Cert.KernelIdeal.Exchange.run_result (F := Ideal) m g),
    (θ_run Cert.ReferenceIdeal.defs _ _).mono (fun r h => h (0 : Dev Cert.ReferenceIdeal.nD))
      (Cert.ReferenceIdeal.Value.run_out m' g')⟩
  exact Cert.KernelIdeal.Exchange.result_eq_block m _ _ (fun c => (hm c).1) (fun c => (hm c).2) c

/-- The certificate. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
